-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x2048 : Shape := ⟨2, ![1024, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg2 : IVec S2048 32) (main_arg3 : IVec S2048 32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_c_6 : IVec S_ 32 := constantI S_ 32 0#32
  let main_v19 : IVec S2048 32 := broadcastInDim S2048 ![] bcast_S_S2048 main_c_6
  let main_v20 : IVec S2048 1 := cmpi .sge main_arg2 main_v19
  let main_c_7 : IVec S_ 1 := constantI S_ 1 1#1
  let main_v21 : IVec S_ 1 := (fun x v => Host.reduce IntOp.andi x v reducesTo_S2048_S_d0 h_S_) main_v20 main_c_7
  let main_v22 : IVec S_ 1 := andi main_v18 main_v21
  let main_c_8 : IVec S_ 32 := constantI S_ 32 0#32
  let main_v23 : IVec S2048 32 := broadcastInDim S2048 ![] bcast_S_S2048 main_c_8
  let main_v24 : IVec S2048 1 := cmpi .sge main_arg3 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v22 main_v25
  main_v26

def fn {F : FTy → Type} [FloatOps F] (main_arg0 : FVec F S1024x2048 .f32) (main_arg1 : FVec F S1024x2048 .f32) (main_arg2 : IVec S2048 32) (main_arg3 : IVec S2048 32) (main_arg4 : FVec F S2048 .f32) (main_arg5 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg2 main_arg3 main_v13 main_v16
-- ==== Kernel.lean ====
abbrev S1024x2048 : Shape := ⟨2, ![1024, 2048]⟩
abbrev S2048 : Shape := ⟨1, ![2048]⟩
abbrev S64x64 : Shape := ⟨2, ![64, 64]⟩
abbrev S_ : Shape := ⟨0, ![]⟩
abbrev S128x128 : Shape := ⟨2, ![128, 128]⟩
abbrev S64x128 : Shape := ⟨2, ![64, 128]⟩
abbrev S128x64 : Shape := ⟨2, ![128, 64]⟩
abbrev S2048x1 : Shape := ⟨2, ![2048, 1]⟩
abbrev S1024x8192 : Shape := ⟨2, ![1024, 8192]⟩
abbrev S128x2048 : Shape := ⟨2, ![128, 2048]⟩
abbrev S128x8192 : Shape := ⟨2, ![128, 8192]⟩
abbrev S2048x512 : Shape := ⟨2, ![2048, 512]⟩
abbrev S128x512 : Shape := ⟨2, ![128, 512]⟩
abbrev S128x128x64 : Shape := ⟨3, ![128, 128, 64]⟩
abbrev S128x64x128 : Shape := ⟨3, ![128, 64, 128]⟩
abbrev S1x64x128 : Shape := ⟨3, ![1, 64, 128]⟩
abbrev S1x128x64 : Shape := ⟨3, ![1, 128, 64]⟩

abbrev nBuf : Space → Nat
  | .hbm => 80
  | .vmem => 25
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048, .i32⟩
  | .hbm, ⟨3, _⟩ => ⟨S2048, .i32⟩
  | .hbm, ⟨4, _⟩ => ⟨S2048, .f32⟩
  | .hbm, ⟨5, _⟩ => ⟨S2048, .f32⟩
  | .hbm, ⟨6, _⟩ => ⟨S64x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .f32⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S64x128, .i32⟩
  | .hbm, ⟨22, _⟩ => ⟨S64x128, .i32⟩
  | .hbm, ⟨23, _⟩ => ⟨S64x128, .i32⟩
  | .hbm, ⟨24, _⟩ => ⟨S_, .i32⟩
  | .hbm, ⟨25, _⟩ => ⟨S64x128, .i32⟩
  | .hbm, ⟨26, _⟩ => ⟨S64x128, .i32⟩
  | .hbm, ⟨27, _⟩ => ⟨S64x128, .f32⟩
  | .hbm, ⟨28, _⟩ => ⟨S_, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S64x64, .f32⟩
  | .hbm, ⟨39, _⟩ => ⟨S_, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S128x64, .i32⟩
  | .hbm, ⟨44, _⟩ => ⟨S128x64, .i32⟩
  | .hbm, ⟨45, _⟩ => ⟨S128x64, .i32⟩
  | .hbm, ⟨46, _⟩ => ⟨S_, .i32⟩
  | .hbm, ⟨47, _⟩ => ⟨S128x64, .i32⟩
  | .hbm, ⟨48, _⟩ => ⟨S128x64, .i32⟩
  | .hbm, ⟨49, _⟩ => ⟨S128x64, .f32⟩
  | .hbm, ⟨50, _⟩ => ⟨S_, .f32⟩
  | .hbm, ⟨51, _⟩ => ⟨S_, .f32⟩
  | .hbm, ⟨52, _⟩ => ⟨S128x64, .f32⟩
  | .hbm, ⟨53, _⟩ => ⟨S128x64, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S128x64, .f32⟩
  | .hbm, ⟨66, _⟩ => ⟨S128x64, .f32⟩
  | .hbm, ⟨67, _⟩ => ⟨S128x128, .f32⟩
  | .hbm, ⟨68, _⟩ => ⟨S_, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S2048x1, .i32⟩
  | .hbm, ⟨76, _⟩ => ⟨S2048x1, .i32⟩
  | .hbm, ⟨77, _⟩ => ⟨S2048x1, .f32⟩
  | .hbm, ⟨78, _⟩ => ⟨S2048x1, .f32⟩
  | .hbm, ⟨79, _⟩ => ⟨S1024x8192, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x1, .i32⟩
  | .local _ .vmem, ⟨5, _⟩ => ⟨S2048x1, .f32⟩
  | .local _ .vmem, ⟨6, _⟩ => ⟨S2048x1, .i32⟩
  | .local _ .vmem, ⟨7, _⟩ => ⟨S2048x1, .f32⟩
  | .local _ .vmem, ⟨8, _⟩ => ⟨S128x128, .f32⟩
  | .local _ .vmem, ⟨9, _⟩ => ⟨S128x128, .f32⟩
  | .local _ .vmem, ⟨10, _⟩ => ⟨S64x128, .f32⟩
  | .local _ .vmem, ⟨11, _⟩ => ⟨S64x128, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S128x64, .f32⟩
  | .local _ .vmem, ⟨17, _⟩ => ⟨S128x64, .f32⟩
  | .local _ .vmem, ⟨18, _⟩ => ⟨S128x128, .f32⟩
  | .local _ .vmem, ⟨19, _⟩ => ⟨S128x128, .f32⟩
  | .local _ .vmem, ⟨20, _⟩ => ⟨S64x64, .f32⟩
  | .local _ .vmem, ⟨21, _⟩ => ⟨S128x8192, .f32⟩
  | .local _ .vmem, ⟨22, _⟩ => ⟨S128x8192, .f32⟩
  | .local _ .vmem, ⟨23, _⟩ => ⟨S128x8192, .f32⟩
  | .local _ .vmem, ⟨24, _⟩ => ⟨S128x8192, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_cst_0 : Ref sig .tc := ⟨.hbm, 7, rfl⟩
abbrev main_call0_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_2 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_3 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_cst_4 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_c_5 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_cst_6 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_c_7 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_cst_8 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_v46 : Ref sig .tc := ⟨.hbm, 63, rfl⟩
abbrev main_call0_v47 : Ref sig .tc := ⟨.hbm, 64, rfl⟩
abbrev main_call0_v48 : Ref sig .tc := ⟨.hbm, 65, rfl⟩
abbrev main_call0_v49 : Ref sig .tc := ⟨.hbm, 66, rfl⟩
abbrev main_call0_v50 : Ref sig .tc := ⟨.hbm, 67, rfl⟩
abbrev main_call0_cst_9 : Ref sig .tc := ⟨.hbm, 68, rfl⟩
abbrev main_call0_v51 : Ref sig .tc := ⟨.hbm, 69, rfl⟩
abbrev main_call0_v52 : Ref sig .tc := ⟨.hbm, 70, rfl⟩
abbrev main_call0_v53 : Ref sig .tc := ⟨.hbm, 71, rfl⟩
abbrev main_call0_cst_10 : Ref sig .tc := ⟨.hbm, 72, rfl⟩
abbrev main_call0_v54 : Ref sig .tc := ⟨.hbm, 73, rfl⟩
abbrev main_call0_v55 : Ref sig .tc := ⟨.hbm, 74, rfl⟩
abbrev main_call0_v56 : Ref sig .tc := ⟨.hbm, 75, rfl⟩
abbrev main_call0_v57 : Ref sig .tc := ⟨.hbm, 76, rfl⟩
abbrev main_call0_v58 : Ref sig .tc := ⟨.hbm, 77, rfl⟩
abbrev main_call0_v59 : Ref sig .tc := ⟨.hbm, 78, rfl⟩
abbrev main_v0 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_off1 (k0_t1 : Fin k0_t1_loop.trips) : Fin 2 → Nat :=
  let c0_82 : Index := 0#32
  let c0_i32 : BitVec 32 := 0#32
  let c1_i32 : BitVec 32 := 1#32
  let arg23 : BitVec 32 := Scf.iv c0_i32 c1_i32 k0_t1
  let c512_i32_81 : BitVec 32 := 512#32
  let v129 : BitVec 32 := Scalar.muli arg23 c512_i32_81
  let v130 : Index := Scalar.indexCast v129
  ![0, v130.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x8192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S1024x2048 : Shape := ⟨2, ![1024, 2048]⟩
abbrev S2048 : Shape := ⟨1, ![2048]⟩
abbrev S_ : Shape := ⟨0, ![]⟩
abbrev S1024x8192 : Shape := ⟨2, ![1024, 8192]⟩
abbrev S1x2048 : Shape := ⟨2, ![1, 2048]⟩
abbrev S2048x1 : Shape := ⟨2, ![2048, 1]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048, .i32⟩
  | .hbm, ⟨3, _⟩ => ⟨S2048, .i32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S1024x8192, .f32⟩
  | .hbm, ⟨8, _⟩ => ⟨S1x2048, .f32⟩
  | .hbm, ⟨9, _⟩ => ⟨S1024x2048, .f32⟩
  | .hbm, ⟨10, _⟩ => ⟨S1024x2048, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1024x8192, .f32⟩
  | .hbm, ⟨20, _⟩ => ⟨S_, .f32⟩
  | .hbm, ⟨21, _⟩ => ⟨S1024x8192, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S1024x8192, .f32⟩
  | .hbm, ⟨34, _⟩ => ⟨S8192x8192, .i32⟩
  | .hbm, ⟨35, _⟩ => ⟨S8192x8192, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x8192, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S1024x8192, .f32⟩
  | .hbm, ⟨51, _⟩ => ⟨S1024x8192, .f32⟩
  | .hbm, ⟨52, _⟩ => ⟨S1024x8192, .f32⟩
  | .hbm, ⟨53, _⟩ => ⟨S1024x8192, .f32⟩
  | .hbm, ⟨54, _⟩ => ⟨S1024x8192, .f32⟩
  | .hbm, ⟨55, _⟩ => ⟨S1024x8192, .f32⟩
  | .hbm, ⟨56, _⟩ => ⟨S1024x8192, .f32⟩
  | .hbm, ⟨57, _⟩ => ⟨S1024x8192, .f32⟩
  | .hbm, ⟨58, _⟩ => ⟨S1024x8192, .f32⟩
  | .hbm, ⟨59, _⟩ => ⟨S1024x8192, .f32⟩
  | .hbm, ⟨60, _⟩ => ⟨S1024x8192, .f32⟩
  | .hbm, ⟨61, _⟩ => ⟨S1024x8192, .f32⟩
  | .hbm, ⟨62, _⟩ => ⟨S1024x8192, .f32⟩
  | .hbm, ⟨63, _⟩ => ⟨S1024x8192, .f32⟩
  | .hbm, ⟨64, _⟩ => ⟨S1024x8192, .f32⟩
  | .hbm, ⟨65, _⟩ => ⟨S_, .f32⟩
  | .hbm, ⟨66, _⟩ => ⟨S1024x8192, .f32⟩
  | .hbm, ⟨67, _⟩ => ⟨S1024x8192, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.BodyRun.lean ====
/-
  One run of the kernel's body: on whole buffers, the inputs at their contents, the body ends with the inputs as they were
  and its result stored, and what it stores is found by the run (`kernelRun0_A`). The text is the generated one of the
  frame, with the facts cleared that the run does not need, so that it fits its budget.
-/
module

public import proofs.«01_k».proof.Proof.Gen.KernelIdeal.Frame.Runs

@[expose] public section

-- the long axes need a deep recursion
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option backward.proofsInPublic true in
set_option maxHeartbeats 3000000 in
/-- What the body stores into its result, with the proof that on whole buffers, the inputs at given contents and the result
    and the scratch at any, the body runs, leaves the inputs as they were and the result with these stores written. -/
noncomputable def kernelRun0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S128x64 .f32) (harg15 : arg15.IsWhole) (arg16 : Memref sig .tc .vmem S128x64 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S64x64 .f32) (harg19 : arg19.IsWhole) (arg20 : Memref sig .tc .vmem S128x8192 .f32) (harg20 : arg20.IsWhole) (arg21 : Memref sig .tc .vmem S128x8192 .f32) (harg21 : arg21.IsWhole) (arg22 : Memref sig .tc .vmem S128x8192 .f32) (harg22 : arg22.IsWhole)
    (x0 : Vec F S128x2048 .f32) (x1 : Vec F S128x2048 .f32) (x2 : Vec F S2048x1 .i32) (x3 : Vec F S2048x1 .f32) (x4 : Vec F S2048x1 .i32) (x5 : Vec F S2048x1 .f32) (x6 : Vec F S128x128 .f32) (x7 : Vec F S128x128 .f32) (x8 : Vec F S64x128 .f32) (x9 : Vec F S64x128 .f32) (x10 : Vec F S64x64 .f32) (x11 : Vec F S64x64 .f32) (x12 : Vec F S64x64 .f32) (x13 : Vec F S64x64 .f32) (x14 : Vec F S128x64 .f32) (x15 : Vec F S128x64 .f32) (x16 : Vec F S128x128 .f32) (x17 : Vec F S128x128 .f32) (x18 : Vec F S64x64 .f32) :
    { L19 : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d)) -∗ K ⟨⟩))
          ⊢ wp frame (wpE (defs₀ (F := F)) Variants.none c none) E (cc0__mcb_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    simp only [cc0__mcb_body_eq_skeleton]; unfold cc0__mcb_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    clear hf0 hf1 hf2 hf3 hf4 hf5 hf6 hf7 hf8 hf9 hf10 hf11 hf12 hf13 hf14 hf15 hf16 hf17 hf18
    have hrd0 : ∀ (𝒱 : Variants) (c : Dev nD) (bd : Option 𝒱.V) (i : grid0.Coords) (arg1 : Memref sig .tc .vmem S128x2048 .f32) (harg1 : arg1.IsWhole) (arg2 : Memref sig .tc .vmem S128x2048 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S128x64 .f32) (harg15 : arg15.IsWhole) (arg16 : Memref sig .tc .vmem S128x64 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S64x64 .f32) (harg19 : arg19.IsWhole) (arg20 : Memref sig .tc .vmem S128x8192 .f32) (harg20 : arg20.IsWhole) (arg21 : Memref sig .tc .vmem S128x8192 .f32) (harg21 : arg21.IsWhole) (arg22 : Memref sig .tc .vmem S128x8192 .f32) (harg22 : arg22.IsWhole) (v0 : Vec F S128x2048 .f32) (v1 : Vec F S128x2048 .f32) (v2 : Vec F S2048x1 .i32) (v4 : Vec F S2048x1 .f32) (v6 : Vec F S2048x1 .i32) (v8 : Vec F S2048x1 .f32) (hrdF : BufTy.Contents (Elt F) arg21.view.ty) (hrdB : LoadRect S128x8192), arg21.view.readAt (Elt F) hrdB (arg21.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).1) = arg21.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).1 S128x512.size (by sl_kernel_rfl) (hrdB.idx hrdJ))
    have hrd1 : ∀ (𝒱 : Variants) (c : Dev nD) (bd : Option 𝒱.V) (i : grid0.Coords) (arg1 : Memref sig .tc .vmem S128x2048 .f32) (harg1 : arg1.IsWhole) (arg2 : Memref sig .tc .vmem S128x2048 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S128x64 .f32) (harg15 : arg15.IsWhole) (arg16 : Memref sig .tc .vmem S128x64 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S64x64 .f32) (harg19 : arg19.IsWhole) (arg20 : Memref sig .tc .vmem S128x8192 .f32) (harg20 : arg20.IsWhole) (arg21 : Memref sig .tc .vmem S128x8192 .f32) (harg21 : arg21.IsWhole) (arg22 : Memref sig .tc .vmem S128x8192 .f32) (harg22 : arg22.IsWhole) (v0 : Vec F S128x2048 .f32) (v1 : Vec F S128x2048 .f32) (v2 : Vec F S2048x1 .i32) (v4 : Vec F S2048x1 .f32) (v6 : Vec F S2048x1 .i32) (v8 : Vec F S2048x1 .f32) (hrdF : BufTy.Contents (Elt F) arg22.view.ty) (hrdB : LoadRect S128x8192), arg22.view.readAt (Elt F) hrdB (arg22.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).2) = arg22.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips k0_t1_loop.lb k0_t1_loop.ub k0_t1_loop.st)).2 S128x512.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]
    · iexists _, _; isplitr; swap; · iexact HS0
      ipureintro; rfl
    iexists _, _; isplitr; swap; · iexact HS1
    ipureintro; rfl

end Cert.KernelIdeal.Body

end
-- ==== Proof.Launch.lean ====
/-
  The launch of the kernel: what the body leaves in the result's buffer at each grid point (`outsAt0`), the proof data of
  the pipeline (`dats`), the body's obligation, the run (`run_main`) and the frame (`frame`). The text is the generated one,
  over the body's run of `BodyRun.lean`.
-/
module

public import proofs.«01_k».proof.Proof.BodyRun
public import Idealize.ShloMosaic.Lib.Claim

@[expose] public section

-- the long axes need a deep recursion
set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's store covers the whole block of the result. -/
theorem cover0_A_19 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S128x64 .f32) (harg15 : arg15.IsWhole) (arg16 : Memref sig .tc .vmem S128x64 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S64x64 .f32) (harg19 : arg19.IsWhole) (arg20 : Memref sig .tc .vmem S128x8192 .f32) (harg20 : arg20.IsWhole) (arg21 : Memref sig .tc .vmem S128x8192 .f32) (harg21 : arg21.IsWhole) (arg22 : Memref sig .tc .vmem S128x8192 .f32) (harg22 : arg22.IsWhole)
    (x0 : Vec F S128x2048 .f32) (x1 : Vec F S128x2048 .f32) (x2 : Vec F S2048x1 .i32) (x3 : Vec F S2048x1 .f32) (x4 : Vec F S2048x1 .i32) (x5 : Vec F S2048x1 .f32) (x6 : Vec F S128x128 .f32) (x7 : Vec F S128x128 .f32) (x8 : Vec F S64x128 .f32) (x9 : Vec F S64x128 .f32) (x10 : Vec F S64x64 .f32) (x11 : Vec F S64x64 .f32) (x12 : Vec F S64x64 .f32) (x13 : Vec F S64x64 .f32) (x14 : Vec F S128x64 .f32) (x15 : Vec F S128x64 .f32) (x16 : Vec F S128x128 .f32) (x17 : Vec F S128x128 .f32) (x18 : Vec F S64x64 .f32) (y : S128x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1 S128x8192.size (by sl_kernel_rfl) y

/-- What the run leaves in output 19's staging buffer: its stores read back over anything. -/
def out0_A_19 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S128x64 .f32) (harg15 : arg15.IsWhole) (arg16 : Memref sig .tc .vmem S128x64 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S64x64 .f32) (harg19 : arg19.IsWhole) (arg20 : Memref sig .tc .vmem S128x8192 .f32) (harg20 : arg20.IsWhole) (arg21 : Memref sig .tc .vmem S128x8192 .f32) (harg21 : arg21.IsWhole) (arg22 : Memref sig .tc .vmem S128x8192 .f32) (harg22 : arg22.IsWhole)
    (x0 : Vec F S128x2048 .f32) (x1 : Vec F S128x2048 .f32) (x2 : Vec F S2048x1 .i32) (x3 : Vec F S2048x1 .f32) (x4 : Vec F S2048x1 .i32) (x5 : Vec F S2048x1 .f32) (x6 : Vec F S128x128 .f32) (x7 : Vec F S128x128 .f32) (x8 : Vec F S64x128 .f32) (x9 : Vec F S64x128 .f32) (x10 : Vec F S64x64 .f32) (x11 : Vec F S64x64 .f32) (x12 : Vec F S64x64 .f32) (x13 : Vec F S64x64 .f32) (x14 : Vec F S128x64 .f32) (x15 : Vec F S128x64 .f32) (x16 : Vec F S128x128 .f32) (x17 : Vec F S128x128 .f32) (x18 : Vec F S64x64 .f32) : Vec F S128x8192 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18).1)

/-! ## What the outputs hold after each point -/

/-- What the outputs' staging buffers hold after the body at point `t`: the run's contents at
    the point's memrefs and input blocks. -/
def outsAt0 (c : Dev nD) (t : Fin cfg0.N) : Vec F S128x8192 .f32 :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-! ## The pipeline's proof data -/

/-- The proof data of the pipeline on core `c`: the arrays as the call finds them, after the body at point `t` each input's
    buffer at its block and the result's at `outsAt0`; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t)
    | ⟨_ + 20, h⟩ => absurd h (Nat.not_lt.2 (Nat.le_add_left _ _))
  Φ _ := Pipeline.ΦA spec0 c
  q _ := fullShare
  owed _ := 0

/-- The proof data's arrays are what the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  unfold outsAt0
  unfold out0_A_19
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, ⟨%e19, H19⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The program's body at point `t` is `bodyAt0 t`. -/
theorem defs₀_row (t : Fin cfg0.N) :
    defs₀ (F := F) .tc cfg0.body (cfg0.bodyArgs t (cfg0.slots t)) = bodyAt0 t := by
  unfold defs₀; rw [Defs.onTc_tc]

/-- The body does what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, and every array ends at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program runs, its arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.Sketch.lean ====
/-
  What the kernel's loop leaves in its two scratch arrays: trip `k` of sixteen writes the 512 columns `512 k …` of each,
  so after the loop column `d` holds what trip `d / 512` wrote at its own column `d % 512`.
-/
module

public import proofs.«01_k».proof.Proof.Launch
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The loop makes sixteen trips. -/
theorem trips_eq : k0_t1_loop.trips = 16 := by decide +kernel

/-- Trip `k` writes at row 0. -/
theorem off1_row (k : Fin k0_t1_loop.trips) : k0_off1 k 0 = 0 := rfl

/-- Trip `k` writes at column `512 k`. -/
theorem off1_col : ∀ k : Fin k0_t1_loop.trips, k0_off1 k 1 = 512 * (k : ℕ) := by decide +kernel

/-- The first sketch of a block: column `d` is column `d % 512` of what trip `d / 512` stores. -/
def sketch1 (f : Vec F S128x2048 .f32) (h : Vec F S2048x1 .i32) (s : Vec F S2048x1 .f32) : Vec F S128x8192 .f32 := fun y =>
  k0_pay2 f h s ⟨(y 1 : ℕ) / 512, by have := (y 1).isLt; have : (y 1 : ℕ) < 8192 := this; rw [trips_eq]; omega⟩
    (ix2 (y 0) (⟨(y 1 : ℕ) % 512, Nat.mod_lt _ (by norm_num)⟩ : Fin 512))

/-- The second sketch of a block, likewise. -/
def sketch2 (f : Vec F S128x2048 .f32) (h : Vec F S2048x1 .i32) (s : Vec F S2048x1 .f32) : Vec F S128x8192 .f32 := fun y =>
  k0_pay3 f h s ⟨(y 1 : ℕ) / 512, by have := (y 1).isLt; have : (y 1 : ℕ) < 8192 := this; rw [trips_eq]; omega⟩
    (ix2 (y 0) (⟨(y 1 : ℕ) % 512, Nat.mod_lt _ (by norm_num)⟩ : Fin 512))

/-- Sixteen tiles of 512 columns, written one after the other: the columns below `512 k` of the canon of the pieces
    before trip `k` hold the tiles' own values. -/
theorem canon_columns (L : ℕ → List (View.Piece (Elt F) S128x8192 .f32)) (P : Fin k0_t1_loop.trips → Vec F S128x512 .f32)
    (hs : ∀ k : Fin k0_t1_loop.trips, L (k.val + 1)
      = (⟨Rect.unit (s := S128x8192) (k0_off1 k) S128x512.size (k0_off1_inb k), P k⟩ : View.Piece (Elt F) S128x8192 .f32) :: L k.val)
    (n : ℕ) (hn : n ≤ 16) (y : S128x8192.Idx) (hy : (y 1 : ℕ) < 512 * n) (hq : (y 1 : ℕ) / 512 < k0_t1_loop.trips) :
    View.canon (L n) y = P ⟨(y 1 : ℕ) / 512, hq⟩ (ix2 (y 0) (⟨(y 1 : ℕ) % 512, Nat.mod_lt _ (by norm_num)⟩ : Fin 512)) := by
  induction n with
  | zero => omega
  | succ n ih =>
    have hn' : n < k0_t1_loop.trips := by rw [trips_eq]; omega
    rw [hs ⟨n, hn'⟩]
    by_cases h : (y 1 : ℕ) < 512 * n
    · rw [View.canon_cons_of_not_mem _ _ (by
        rw [Rect.mem_set_unit]
        intro hm
        have h1 : k0_off1 ⟨n, hn'⟩ 1 ≤ (y 1 : ℕ) := (hm 1).1
        rw [off1_col] at h1
        have : 512 * n ≤ (y 1 : ℕ) := h1
        omega)]
      exact ih (by omega) h
    · have e : (y 1 : ℕ) / 512 = n := by omega
      have e' : (⟨(y 1 : ℕ) / 512, hq⟩ : Fin k0_t1_loop.trips) = ⟨n, hn'⟩ := Fin.ext e
      rw [e']
      have hemb : (Rect.unit (s := S128x8192) (k0_off1 ⟨n, hn'⟩) S128x512.size (k0_off1_inb ⟨n, hn'⟩)).emb
          (ix2 (y 0) (⟨(y 1 : ℕ) % 512, Nat.mod_lt _ (by norm_num)⟩ : Fin 512)) = y := by
        funext a
        apply Fin.ext
        rw [Rect.emb_apply]
        have hc : k0_off1 ⟨n, hn'⟩ 1 = 512 * n := off1_col _
        fin_cases a
        · show 0 + 1 * (y 0 : ℕ) = (y 0 : ℕ); omega
        · show k0_off1 ⟨n, hn'⟩ 1 + 1 * ((y 1 : ℕ) % 512) = (y 1 : ℕ); omega
      conv_lhs => rw [← hemb]
      exact View.canon_cons_emb _ _ _ _

section Loop

variable (c : Dev nD) (i : grid0.Coords)
  (arg1 : Memref sig .tc .vmem S128x2048 .f32) (harg1 : arg1.IsWhole)
  (arg2 : Memref sig .tc .vmem S128x2048 .f32) (harg2 : arg2.IsWhole)
  (arg3 : Memref sig .tc .vmem S2048x1 .i32) (harg3 : arg3.IsWhole)
  (arg4 : Memref sig .tc .vmem S2048x1 .f32) (harg4 : arg4.IsWhole)
  (arg5 : Memref sig .tc .vmem S2048x1 .i32) (harg5 : arg5.IsWhole)
  (arg6 : Memref sig .tc .vmem S2048x1 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S64x128 .f32) (harg9 : arg9.IsWhole)
  (arg10 : Memref sig .tc .vmem S64x128 .f32) (harg10 : arg10.IsWhole)
  (arg11 : Memref sig .tc .vmem S64x64 .f32) (harg11 : arg11.IsWhole)
  (arg12 : Memref sig .tc .vmem S64x64 .f32) (harg12 : arg12.IsWhole)
  (arg13 : Memref sig .tc .vmem S64x64 .f32) (harg13 : arg13.IsWhole)
  (arg14 : Memref sig .tc .vmem S64x64 .f32) (harg14 : arg14.IsWhole)
  (arg15 : Memref sig .tc .vmem S128x64 .f32) (harg15 : arg15.IsWhole)
  (arg16 : Memref sig .tc .vmem S128x64 .f32) (harg16 : arg16.IsWhole)
  (arg17 : Memref sig .tc .vmem S128x128 .f32) (harg17 : arg17.IsWhole)
  (arg18 : Memref sig .tc .vmem S128x128 .f32) (harg18 : arg18.IsWhole)
  (arg19 : Memref sig .tc .vmem S64x64 .f32) (harg19 : arg19.IsWhole)
  (arg20 : Memref sig .tc .vmem S128x8192 .f32) (harg20 : arg20.IsWhole)
  (arg21 : Memref sig .tc .vmem S128x8192 .f32) (harg21 : arg21.IsWhole)
  (arg22 : Memref sig .tc .vmem S128x8192 .f32) (harg22 : arg22.IsWhole)
  (v0 v1 : Vec F S128x2048 .f32) (v2 : Vec F S2048x1 .i32) (v4 : Vec F S2048x1 .f32) (v6 : Vec F S2048x1 .i32) (v8 : Vec F S2048x1 .f32)

/-- What one trip writes: one tile of each scratch array. -/
theorem trip_pieces (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 k
      = ([⟨Rect.unit (s := S128x8192) (k0_off1 k) S128x512.size (k0_off1_inb k), k0_pay2 v0 v2 v4 k⟩],
         [⟨Rect.unit (s := S128x8192) (k0_off1 k) S128x512.size (k0_off1_inb k), k0_pay3 v1 v6 v8 k⟩]) := by
  unfold tripL_k0_t1 trip_k0_t1
  rfl

/-- The first scratch array after the loop. -/
theorem scratch1_eq :
    View.canon (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 16).1 = sketch1 v0 v2 v4 := by
  funext y
  have hy : (y 1 : ℕ) < 8192 := (y 1).isLt
  exact canon_columns (fun k => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 k).1) (k0_pay2 v0 v2 v4)
    (fun k => by rw [pb_k0_t1_succ, trip_pieces]; rfl) 16 le_rfl y (by omega) (by rw [trips_eq]; omega)

/-- The second scratch array after the loop. -/
theorem scratch2_eq :
    View.canon (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 16).2 = sketch2 v1 v6 v8 := by
  funext y
  have hy : (y 1 : ℕ) < 8192 := (y 1).isLt
  exact canon_columns (fun k => (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 k).2) (k0_pay3 v1 v6 v8)
    (fun k => by rw [pb_k0_t1_succ, trip_pieces]; rfl) 16 le_rfl y (by omega) (by rw [trips_eq]; omega)

/-- The first scratch array loaded whole after the loop. -/
theorem load1_eq {κ : Kind} {sp : Space} {sg : RefSig} (v : View sg κ sp S128x8192 .f32) :
    v.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips (0#32) (Scalar.addi 0#32 16#32) 1#32)).1
      (Rect.unit (s := S128x8192) ![0, 0] ![128, 8192] inb_S128x8192_S128x8192_0_0).toLoadRect = sketch1 v0 v2 v4 := by
  rw [View.readCov_eq_canon', show Scf.trips (0#32) (Scalar.addi 0#32 16#32) 1#32 = 16 from trips_eq, scratch1_eq]
  funext j
  refine congrArg _ (funext fun a => Fin.ext ?_)
  fin_cases a
  · show 0 + 1 * (j 0 : ℕ) = (j 0 : ℕ); omega
  · show 0 + 1 * (j 1 : ℕ) = (j 1 : ℕ); omega

/-- The second scratch array loaded whole after the loop. -/
theorem load2_eq {κ : Kind} {sp : Space} {sg : RefSig} (v : View sg κ sp S128x8192 .f32) :
    v.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v1 v2 v4 v6 v8 (Scf.trips (0#32) (Scalar.addi 0#32 16#32) 1#32)).2
      (Rect.unit (s := S128x8192) ![0, 0] ![128, 8192] inb_S128x8192_S128x8192_0_0).toLoadRect = sketch2 v1 v6 v8 := by
  rw [View.readCov_eq_canon', show Scf.trips (0#32) (Scalar.addi 0#32 16#32) 1#32 = 16 from trips_eq, scratch2_eq]
  funext j
  refine congrArg _ (funext fun a => Fin.ext ?_)
  fin_cases a
  · show 0 + 1 * (j 0 : ℕ) = (j 0 : ℕ); omega
  · show 0 + 1 * (j 1 : ℕ) = (j 1 : ℕ); omega

end Loop

/-- What the body computes of one block: the payloads of its three parts over the two sketches `x`, `y` and the tables. -/
def body (x y : Vec F S128x8192 .f32) (w2r w2i : Vec F S128x128 .f32) (tr ti : Vec F S64x128 .f32)
    (w1r w1i w1ir w1ii : Vec F S64x64 .f32) (t2r t2i : Vec F S128x64 .f32) (w2ir w2ii : Vec F S128x128 .f32)
    (e : Vec F S64x64 .f32) : Vec F S128x8192 .f32 :=
  k0_pay1
    (k0_pay18 (k0_pay12 (k0_pay5 y) (k0_pay6 x y w2r w2i) (k0_pay7 x w2i) (k0_pay8 w2r) tr ti ti tr w1r w1i)
      (k0_pay13 (k0_pay5 y) (k0_pay6 x y w2r w2i) (k0_pay7 x w2i) (k0_pay8 w2r) tr ti ti tr w1i w1r)
      (k0_pay14 (k0_pay5 y) (k0_pay6 x y w2r w2i) (k0_pay7 x w2i) (k0_pay8 w2r) tr ti ti tr w1r w1i) w1ii w1ir)
    (k0_pay19 (k0_pay12 (k0_pay5 y) (k0_pay6 x y w2r w2i) (k0_pay7 x w2i) (k0_pay8 w2r) tr ti ti tr w1r w1i)
      (k0_pay13 (k0_pay5 y) (k0_pay6 x y w2r w2i) (k0_pay7 x w2i) (k0_pay8 w2r) tr ti ti tr w1i w1r)
      (k0_pay14 (k0_pay5 y) (k0_pay6 x y w2r w2i) (k0_pay7 x w2i) (k0_pay8 w2r) tr ti ti tr w1r w1i)
      w1ir w1ii w1ii w1ir t2r t2i)
    (k0_pay20 (k0_pay12 (k0_pay5 y) (k0_pay6 x y w2r w2i) (k0_pay7 x w2i) (k0_pay8 w2r) tr ti ti tr w1r w1i)
      (k0_pay13 (k0_pay5 y) (k0_pay6 x y w2r w2i) (k0_pay7 x w2i) (k0_pay8 w2r) tr ti ti tr w1i w1r)
      (k0_pay14 (k0_pay5 y) (k0_pay6 x y w2r w2i) (k0_pay7 x w2i) (k0_pay8 w2r) tr ti ti tr w1r w1i)
      w1ir w1ii t2i)
    (k0_pay21 t2r) w2ii w2ir e

/-- What the run leaves in the result's buffer at point `t` is `body` of the point's blocks. -/
theorem outsAt0_eq (m : (ℓ : Loc nD τ sig) → Buf (Elt F) ℓ) (c : Dev nD) (t : Fin cfg0.N) :
    outsAt0 m c t = body (sketch1 (iblk m c 0 t) (iblk m c 2 t) (iblk m c 3 t))
      (sketch2 (iblk m c 1 t) (iblk m c 4 t) (iblk m c 5 t))
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) := by
  unfold outsAt0 body
  frame_out

  rw [load1_eq, load2_eq]

end Cert.KernelIdeal.Body
-- ==== Proof.Fourier.lean ====
/-
  The mathematics of the claim, over the real and the complex numbers and with no program in it.

  `rot x` is the number `exp(-2 pi i x / 8192)`, kept as its cosine and its sine, because the programs compute with
  real and imaginary parts apart. The kernel's chain of real sums (`br` to `out`) is read as a transform of length
  8192 split as 128 times 64, squared, transformed back in the same split (`out_eq`); and the imaginary part of that is
  the real part of the inverse transform of the product of the two spectra (`kernel_eq_reference`).
-/
module

public import Mathlib.Analysis.SpecialFunctions.Trigonometric.Basic
public import Mathlib.Data.Complex.BigOperators
public import Mathlib.Algebra.BigOperators.Fin
public import Mathlib.Logic.Equiv.Fin.Basic

@[expose] public section

noncomputable section

namespace Cert.Fourier

open Finset ComplexConjugate

/-- `cos(2 pi x / 8192)`. -/
def C (x : ℕ) : ℝ := Real.cos ((x : ℝ) * (1 / 4096 * Real.pi))

/-- `sin(2 pi x / 8192)`. -/
def S (x : ℕ) : ℝ := Real.sin ((x : ℝ) * (1 / 4096 * Real.pi))

/-- `exp(-2 pi i x / 8192)`. -/
def rot (x : ℕ) : ℂ := ⟨C x, -S x⟩

/-- `rot` turns sums into products. -/
theorem rot_add (x y : ℕ) : rot (x + y) = rot x * rot y := by
  apply Complex.ext
  · simp only [rot, C, S, Complex.mul_re, Nat.cast_add, add_mul, Real.cos_add]; ring
  · simp only [rot, C, S, Complex.mul_im, Nat.cast_add, add_mul, Real.sin_add]; ring

/-- A whole number of turns does nothing. -/
theorem rot_turns (j : ℕ) : rot (8192 * j) = 1 := by
  have h : ((8192 * j : ℕ) : ℝ) * (1 / 4096 * Real.pi) = (j : ℝ) * (2 * Real.pi) := by push_cast; ring
  apply Complex.ext
  · simp only [rot, C, h, Complex.one_re]; exact Real.cos_nat_mul_two_pi j
  · simp only [rot, S, h, Complex.one_im, neg_eq_zero]
    have := Real.sin_nat_mul_pi (j * 2)
    push_cast at this
    rw [← this]; congr 1; ring

/-- `rot` sees its argument modulo 8192. -/
theorem rot_mod {x y : ℕ} (h : x % 8192 = y % 8192) : rot x = rot y := by
  have key : ∀ z, rot z = rot (z % 8192) := fun z => by
    conv_lhs => rw [← Nat.mod_add_div z 8192, rot_add, rot_turns, mul_one]
  rw [key x, key y, h]

/-- The cosine sees its argument modulo 8192. -/
theorem C_mod {x y : ℕ} (h : x % 8192 = y % 8192) : C x = C y := by
  have h1 : (rot x).re = (rot y).re := by rw [rot_mod h]
  exact h1

/-- The sine sees its argument modulo 8192. -/
theorem S_mod {x y : ℕ} (h : x % 8192 = y % 8192) : S x = S y := by
  have h1 : (rot x).im = (rot y).im := by rw [rot_mod h]
  exact neg_injective h1

/-- The inverse of a rotation is its conjugate. -/
theorem rot_mul_conj (x : ℕ) : rot x * conj (rot x) = 1 := by
  apply Complex.ext
  · simp only [rot, C, S, Complex.mul_re, Complex.conj_re, Complex.conj_im, Complex.one_re]
    nlinarith [Real.sin_sq_add_cos_sq ((x : ℝ) * (1 / 4096 * Real.pi))]
  · simp only [rot, Complex.mul_im, Complex.conj_re, Complex.conj_im, Complex.one_im]; ring

/-- The rotation that completes a whole number of turns is the conjugate. -/
theorem rot_neg {x y : ℕ} (h : (x + y) % 8192 = 0) : rot y = conj (rot x) := by
  have h1 : rot x * rot y = 1 := by rw [← rot_add, rot_mod (y := 8192 * 0) (by omega), rot_turns]
  calc rot y = (rot x * conj (rot x)) * rot y := by rw [rot_mul_conj, one_mul]
    _ = conj (rot x) * (rot x * rot y) := by ring
    _ = conj (rot x) := by rw [h1, mul_one]

/-! ## The kernel's chain, in real numbers -/

section Chain

variable (a b : ℕ → ℝ)

/-- First factor of the transform, real part: over the 128 places `64 n2 + n1` of a column `n1`. -/
def br (n1 k2 : ℕ) : ℝ :=
  (∑ n2 : Fin 128, a (64 * n2 + n1) * C (64 * (n2 * k2))) - ∑ n2 : Fin 128, b (64 * n2 + n1) * -S (64 * (n2 * k2))
/-- First factor, imaginary part. -/
def bi (n1 k2 : ℕ) : ℝ :=
  (∑ n2 : Fin 128, a (64 * n2 + n1) * -S (64 * (n2 * k2))) + ∑ n2 : Fin 128, b (64 * n2 + n1) * C (64 * (n2 * k2))
/-- The twiddled first factor, real part. -/
def cr (n1 k2 : ℕ) : ℝ := br a b n1 k2 * C (n1 * k2) - bi a b n1 k2 * -S (n1 * k2)
/-- The twiddled first factor, imaginary part. -/
def ci (n1 k2 : ℕ) : ℝ := br a b n1 k2 * -S (n1 * k2) + bi a b n1 k2 * C (n1 * k2)
/-- The spectrum at the frequency `k2 + 128 k1`, real part. -/
def zr (k2 k1 : ℕ) : ℝ :=
  (∑ n1 : Fin 64, cr a b n1 k2 * C (128 * (n1 * k1))) - ∑ n1 : Fin 64, ci a b n1 k2 * -S (128 * (n1 * k1))
/-- The spectrum at the frequency `k2 + 128 k1`, imaginary part. -/
def zi (k2 k1 : ℕ) : ℝ :=
  (∑ n1 : Fin 64, cr a b n1 k2 * -S (128 * (n1 * k1))) + ∑ n1 : Fin 64, ci a b n1 k2 * C (128 * (n1 * k1))
/-- The squared spectrum, real part. -/
def qr (k2 k1 : ℕ) : ℝ := zr a b k2 k1 * zr a b k2 k1 - zi a b k2 k1 * zi a b k2 k1
/-- The squared spectrum, imaginary part. -/
def qi (k2 k1 : ℕ) : ℝ := 2 * zr a b k2 k1 * zi a b k2 k1
/-- First factor of the inverse transform, real part. -/
def fr (k2 n1 : ℕ) : ℝ :=
  (∑ k1 : Fin 64, qr a b k2 k1 * C (128 * (k1 * n1))) - ∑ k1 : Fin 64, qi a b k2 k1 * S (128 * (k1 * n1))
/-- First factor of the inverse transform, imaginary part. -/
def fi (k2 n1 : ℕ) : ℝ :=
  (∑ k1 : Fin 64, qr a b k2 k1 * S (128 * (k1 * n1))) + ∑ k1 : Fin 64, qi a b k2 k1 * C (128 * (k1 * n1))
/-- The twiddled factor of the inverse transform, real part. -/
def gr (k2 n1 : ℕ) : ℝ := fr a b k2 n1 * C (k2 * n1) - fi a b k2 n1 * S (k2 * n1)
/-- The twiddled factor of the inverse transform, imaginary part. -/
def gi (k2 n1 : ℕ) : ℝ := fr a b k2 n1 * S (k2 * n1) + fi a b k2 n1 * C (k2 * n1)
/-- The imaginary part of the inverse transform at `64 n2 + n1`, the scale 1/16384 in its tables. -/
def hi (n1 n2 : ℕ) : ℝ :=
  (∑ k2 : Fin 128, gr a b k2 n1 * (S (64 * (k2 * n2)) * (1 / 16384)))
    + ∑ k2 : Fin 128, gi a b k2 n1 * (C (64 * (k2 * n2)) * (1 / 16384))
/-- What the kernel leaves at `64 n2 + n1`: `hi`, transposed by a product with the unit matrix. -/
def out (n2 n1 : ℕ) : ℝ := ∑ j : Fin 64, hi a b j n2 * (if (j : ℕ) = n1 then 1 else 0)

end Chain

/-! ## The reference's chain, in real numbers -/

section Reference

variable (a b : ℕ → ℝ)

/-- The spectrum of a real row at the frequency `k`, real part. -/
def specR (k : ℕ) : ℝ := ∑ n : Fin 8192, a n * C (n * k)
/-- The spectrum of a real row at the frequency `k`, imaginary part. -/
def specI (k : ℕ) : ℝ := -∑ n : Fin 8192, a n * S (n * k)
/-- The product of the two spectra, real part. -/
def prodR (k : ℕ) : ℝ := specR a k * specR b k - specI a k * specI b k
/-- The product of the two spectra, imaginary part. -/
def prodI (k : ℕ) : ℝ := specR a k * specI b k + specI a k * specR b k
/-- The real part of the inverse transform of the product, at `n`. -/
def ref (n : ℕ) : ℝ :=
  ((∑ k : Fin 8192, prodR a b k * C (k * n)) - ∑ k : Fin 8192, prodI a b k * S (k * n)) * (1 / 8192)

end Reference

/-! ## The chains as complex numbers -/

section Complex

variable (a b : ℕ → ℝ)

/-- The spectrum of a real row at the frequency `k`. -/
def spec (k : ℕ) : ℂ := ∑ n : Fin 8192, (a n : ℂ) * rot (n * k)

theorem spec_re (k : ℕ) : (spec a k).re = specR a k := by
  simp [spec, specR, rot]

theorem spec_im (k : ℕ) : (spec a k).im = specI a k := by
  simp [spec, specI, rot, Finset.sum_neg_distrib]

/-- A sum over 8192 places as a sum over 128 rows of 64 places. -/
theorem sum_rows {M : Type*} [AddCommMonoid M] (f : ℕ → M) :
    ∑ n : Fin 8192, f n = ∑ n2 : Fin 128, ∑ n1 : Fin 64, f (64 * n2 + n1) := by
  rw [← Fintype.sum_prod_type', ← (finProdFinEquiv (m := 128) (n := 64)).sum_comp fun n => f n]
  exact Finset.sum_congr rfl fun p _ => congrArg f (Nat.add_comm _ _)

/-- A sum over 8192 frequencies as a sum over 64 rows of 128 frequencies, the short step inside. -/
theorem sum_freqs {M : Type*} [AddCommMonoid M] (f : ℕ → M) :
    ∑ n : Fin 8192, f n = ∑ k2 : Fin 128, ∑ k1 : Fin 64, f (k2 + 128 * k1) := by
  rw [Finset.sum_comm, ← Fintype.sum_prod_type',
    ← (finProdFinEquiv (m := 64) (n := 128)).sum_comp fun n => f n]
  rfl

/-- The spectrum of the row `a + i b`. -/
def Z (k : ℕ) : ℂ := spec a k + Complex.I * spec b k

theorem Z_eq_sum (k : ℕ) : Z a b k = ∑ n : Fin 8192, ((a n : ℂ) + Complex.I * (b n : ℂ)) * rot (n * k) := by
  simp only [Z, spec, Finset.mul_sum, ← Finset.sum_add_distrib]
  exact Finset.sum_congr rfl fun n _ => by ring

theorem b_eq (n1 k2 : ℕ) : (⟨br a b n1 k2, bi a b n1 k2⟩ : ℂ)
    = ∑ n2 : Fin 128, ((a (64 * n2 + n1) : ℂ) + Complex.I * (b (64 * n2 + n1) : ℂ)) * rot (64 * (n2 * k2)) := by
  apply Complex.ext
  · simp only [br, Complex.re_sum, ← Finset.sum_sub_distrib]
    exact Finset.sum_congr rfl fun n _ => by simp [rot]
  · simp only [bi, Complex.im_sum, ← Finset.sum_add_distrib]
    exact Finset.sum_congr rfl fun n _ => by simp [rot]

theorem c_eq (n1 k2 : ℕ) : (⟨cr a b n1 k2, ci a b n1 k2⟩ : ℂ) = ⟨br a b n1 k2, bi a b n1 k2⟩ * rot (n1 * k2) := by
  apply Complex.ext <;> simp [cr, ci, rot]

theorem z_eq (k2 k1 : ℕ) : (⟨zr a b k2 k1, zi a b k2 k1⟩ : ℂ)
    = ∑ n1 : Fin 64, (⟨cr a b n1 k2, ci a b n1 k2⟩ : ℂ) * rot (128 * (n1 * k1)) := by
  apply Complex.ext
  · simp only [zr, Complex.re_sum, ← Finset.sum_sub_distrib]
    exact Finset.sum_congr rfl fun n _ => by simp [rot]
  · simp only [zi, Complex.im_sum, ← Finset.sum_add_distrib]
    exact Finset.sum_congr rfl fun n _ => by simp [rot]

/-- The split transform is the transform: the kernel's `z` at `k2`, `k1` is the spectrum at `k2 + 128 k1`. -/
theorem z_eq_Z (k2 k1 : ℕ) : (⟨zr a b k2 k1, zi a b k2 k1⟩ : ℂ) = Z a b (k2 + 128 * k1) := by
  rw [z_eq, Z_eq_sum, sum_rows (fun n => ((a n : ℂ) + Complex.I * (b n : ℂ)) * rot (n * (k2 + 128 * k1))),
    Finset.sum_comm]
  refine Finset.sum_congr rfl fun n1 _ => ?_
  rw [c_eq, b_eq, Finset.sum_mul, Finset.sum_mul]
  refine Finset.sum_congr rfl fun n2 _ => ?_
  rw [mul_assoc, mul_assoc, ← rot_add, ← rot_add]
  congr 1
  apply rot_mod
  have : (64 * (n2 : ℕ) + n1) * (k2 + 128 * k1)
      = (64 * (n2 * k2) + (n1 * k2 + 128 * (n1 * k1))) + 8192 * (n2 * k1) := by ring
  rw [this, Nat.add_mul_mod_self_left]

theorem q_eq (k2 k1 : ℕ) : (⟨qr a b k2 k1, qi a b k2 k1⟩ : ℂ) = Z a b (k2 + 128 * k1) * Z a b (k2 + 128 * k1) := by
  rw [← z_eq_Z]
  apply Complex.ext
  · simp [qr]
  · simp only [qi, Complex.mul_im]; ring

theorem f_eq (k2 n1 : ℕ) : (⟨fr a b k2 n1, fi a b k2 n1⟩ : ℂ)
    = ∑ k1 : Fin 64, (⟨qr a b k2 k1, qi a b k2 k1⟩ : ℂ) * conj (rot (128 * (k1 * n1))) := by
  apply Complex.ext
  · simp only [fr, Complex.re_sum, ← Finset.sum_sub_distrib]
    exact Finset.sum_congr rfl fun n _ => by simp [rot]
  · simp only [fi, Complex.im_sum, ← Finset.sum_add_distrib]
    exact Finset.sum_congr rfl fun n _ => by simp [rot]

theorem g_eq (k2 n1 : ℕ) : (⟨gr a b k2 n1, gi a b k2 n1⟩ : ℂ)
    = ⟨fr a b k2 n1, fi a b k2 n1⟩ * conj (rot (k2 * n1)) := by
  apply Complex.ext <;> simp [gr, gi, rot]

theorem h_eq (n1 n2 : ℕ) : hi a b n1 n2
    = (∑ k2 : Fin 128, (⟨gr a b k2 n1, gi a b k2 n1⟩ : ℂ) * conj (rot (64 * (k2 * n2)))).im * (1 / 16384) := by
  simp only [hi, Complex.im_sum, Finset.sum_mul, ← Finset.sum_add_distrib]
  exact Finset.sum_congr rfl fun n _ => by simp [rot]; ring

/-- What the kernel leaves: the imaginary part of the inverse transform of the squared spectrum, over 16384. -/
theorem out_eq (n2 : ℕ) (n1 : Fin 64) : out a b n2 n1
    = (∑ k : Fin 8192, Z a b k * Z a b k * conj (rot (k * (64 * n2 + n1)))).im * (1 / 16384) := by
  have h1 : out a b n2 n1 = hi a b n1 n2 := by
    simp only [out, mul_ite, mul_one, mul_zero, Fin.val_inj]
    rw [Finset.sum_ite_eq' Finset.univ n1 (fun j : Fin 64 => hi a b j n2), if_pos (Finset.mem_univ _)]
  rw [h1, h_eq, sum_freqs (fun k => Z a b k * Z a b k * conj (rot (k * (64 * n2 + n1))))]
  congr 2
  refine Finset.sum_congr rfl fun k2 _ => ?_
  rw [g_eq, f_eq, Finset.sum_mul, Finset.sum_mul]
  refine Finset.sum_congr rfl fun k1 _ => ?_
  rw [q_eq, mul_assoc, mul_assoc, ← map_mul, ← map_mul, ← rot_add, ← rot_add]
  congr 2
  apply rot_mod
  have : ((k2 : ℕ) + 128 * k1) * (64 * n2 + n1)
      = (128 * (k1 * n1) + (k2 * n1 + 64 * (k2 * n2))) + 8192 * (k1 * n2) := by ring
  rw [this, Nat.add_mul_mod_self_left]

/-! ## The reflection of the frequencies -/

/-- The frequency `-k` modulo 8192. -/
def refl (k : Fin 8192) : Fin 8192 := ⟨(8192 - k) % 8192, Nat.mod_lt _ (by decide)⟩

theorem refl_refl (k : Fin 8192) : refl (refl k) = k := by
  apply Fin.ext
  have := k.isLt
  simp only [refl]
  omega

/-- `k` and `-k` complete a whole number of turns, times any `n`. -/
theorem refl_turns (k : Fin 8192) (n : ℕ) : (k * n + refl k * n) % 8192 = 0 := by
  have h : ((k : ℕ) + refl k) % 8192 = 0 := by
    have := k.isLt
    simp only [refl]
    omega
  rw [← Nat.add_mul, Nat.mul_mod, h, Nat.zero_mul, Nat.zero_mod]

/-- A real row's spectrum at `-k` is the conjugate of the one at `k`. -/
theorem spec_refl (k : Fin 8192) : spec a (refl k) = conj (spec a k) := by
  simp only [spec, map_sum, map_mul, Complex.conj_ofReal]
  refine Finset.sum_congr rfl fun n _ => ?_
  rw [rot_neg (x := n * k) (y := n * refl k)]
  rw [Nat.mul_comm, Nat.mul_comm _ (refl k : ℕ)]
  exact refl_turns k n

/-- A sum over the frequencies whose terms at `-k` are the conjugates of those at `k` is real. -/
theorem sum_im_eq_zero (f : Fin 8192 → ℂ) (h : ∀ k, f (refl k) = conj (f k)) : (∑ k, f k).im = 0 := by
  have h1 : ∑ k, f k = conj (∑ k, f k) := by
    rw [map_sum, ← Equiv.sum_comp (Function.Involutive.toPerm refl refl_refl) f]
    exact Finset.sum_congr rfl fun k _ => h k
  exact Complex.conj_eq_iff_im.mp h1.symm

/-- The inverse transform of the product of two real rows' spectra is real. -/
theorem inverse_real (n : ℕ) : (∑ k : Fin 8192, spec a k * spec b k * conj (rot (k * n))).im = 0 := by
  refine sum_im_eq_zero (fun k : Fin 8192 => spec a k * spec b k * conj (rot (k * n))) fun k => ?_
  show spec a (refl k) * spec b (refl k) * conj (rot (refl k * n)) = conj (spec a k * spec b k * conj (rot (k * n)))
  rw [spec_refl, spec_refl, map_mul, map_mul, rot_neg (refl_turns k n)]

theorem ref_eq (n : ℕ) : ref a b n
    = (∑ k : Fin 8192, spec a k * spec b k * conj (rot (k * n))).re * (1 / 8192) := by
  simp only [ref, Complex.re_sum, ← Finset.sum_sub_distrib]
  refine congrArg (fun x : ℝ => x * (1 / 8192)) ?_
  refine Finset.sum_congr rfl fun k _ => ?_
  simp only [prodR, prodI, Complex.mul_re, Complex.mul_im, spec_re, spec_im, Complex.conj_re, Complex.conj_im, rot]
  ring

/-- The kernel's chain leaves what the reference's chain leaves. -/
theorem kernel_eq_reference (n2 : ℕ) (n1 : Fin 64) : out a b n2 n1 = ref a b (64 * n2 + n1) := by
  rw [out_eq, ref_eq]
  generalize 64 * n2 + (n1 : ℕ) = n
  have h : (∑ k : Fin 8192, Z a b k * Z a b k * conj (rot (k * n)))
      = (∑ k : Fin 8192, spec a k * spec a k * conj (rot (k * n)))
        - (∑ k : Fin 8192, spec b k * spec b k * conj (rot (k * n)))
        + 2 * Complex.I * ∑ k : Fin 8192, spec a k * spec b k * conj (rot (k * n)) := by
    rw [Finset.mul_sum, ← Finset.sum_sub_distrib, ← Finset.sum_add_distrib]
    refine Finset.sum_congr rfl fun k _ => ?_
    simp only [Z]
    linear_combination (spec b k * spec b k * conj (rot (k * n))) * Complex.I_sq
  rw [h, Complex.add_im, Complex.sub_im, inverse_real, inverse_real, Complex.mul_im, inverse_real]
  simp
  ring

end Complex

end Cert.Fourier
-- ==== Proof.Block.lean ====
/-
  What the body computes of one block, over the real numbers: when the two sketches and the tables hold real numbers,
  every stage of the body holds the real number that the stage of `Fourier.lean` of the same meaning has.
-/
module

public import proofs.«01_k».proof.Proof.Sketch
public import proofs.«01_k».proof.Proof.Fourier

@[expose] public section

set_option maxRecDepth 16384

noncomputable section

namespace Cert.KernelIdeal.Body

open Cert.KernelIdeal Cert.KernelIdeal.Gen Idealize.ShloMosaic Idealize.ShloMosaic.TcCoe

/-- A sum of real numbers, taken in the extended reals. -/
theorem coe_sum {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := fun s => by
    classical
    induction s using Finset.induction_on with
    | empty => simp
    | insert x s hx ih => rw [Finset.sum_insert hx, Finset.sum_insert hx, ih, EReal.coe_add]
  exact h Finset.univ

/-- The word of the factor two. -/
theorem two_eq : Ideal.ofBits FTy.f32 1073741824#32 = ((2 : ℝ) : EReal) := by
  simp [Ideal.ofBits, Ideal.ieee, -EReal.coe_mul]; norm_num

/-- The tables of the kernel: every entry the cosine or the sine of its angle. -/
structure Tables (w2r w2i : Vec Ideal S128x128 .f32) (tr ti : Vec Ideal S64x128 .f32)
    (w1r w1i w1ir w1ii : Vec Ideal S64x64 .f32) (t2r t2i : Vec Ideal S128x64 .f32) (w2ir w2ii : Vec Ideal S128x128 .f32)
    (e : Vec Ideal S64x64 .f32) : Prop where
  w2r : ∀ i j, w2r (ix2 i j) = ((Fourier.C (64 * (i * j)) : ℝ) : EReal)
  w2i : ∀ i j, w2i (ix2 i j) = ((-Fourier.S (64 * (i * j)) : ℝ) : EReal)
  tr : ∀ i j, tr (ix2 i j) = ((Fourier.C (i * j) : ℝ) : EReal)
  ti : ∀ i j, ti (ix2 i j) = ((-Fourier.S (i * j) : ℝ) : EReal)
  w1r : ∀ i j, w1r (ix2 i j) = ((Fourier.C (128 * (i * j)) : ℝ) : EReal)
  w1i : ∀ i j, w1i (ix2 i j) = ((-Fourier.S (128 * (i * j)) : ℝ) : EReal)
  w1ir : ∀ i j, w1ir (ix2 i j) = ((Fourier.C (128 * (i * j)) : ℝ) : EReal)
  w1ii : ∀ i j, w1ii (ix2 i j) = ((Fourier.S (128 * (i * j)) : ℝ) : EReal)
  t2r : ∀ i j, t2r (ix2 i j) = ((Fourier.C (i * j) : ℝ) : EReal)
  t2i : ∀ i j, t2i (ix2 i j) = ((Fourier.S (i * j) : ℝ) : EReal)
  w2ir : ∀ i j, w2ir (ix2 i j) = ((Fourier.C (64 * (i * j)) * (1 / 16384) : ℝ) : EReal)
  w2ii : ∀ i j, w2ii (ix2 i j) = ((Fourier.S (64 * (i * j)) * (1 / 16384) : ℝ) : EReal)
  e : ∀ i j, e (ix2 i j) = (((if (i : ℕ) = (j : ℕ) then 1 else 0) : ℝ) : EReal)

section Stages

variable (a b : Fin 128 → ℕ → ℝ)
  {x y : Vec Ideal S128x8192 .f32} (hx : ∀ r (d : Fin 8192), x (ix2 r d) = ((a r d : ℝ) : EReal))
  (hy : ∀ r (d : Fin 8192), y (ix2 r d) = ((b r d : ℝ) : EReal))
  {w2r w2i : Vec Ideal S128x128 .f32} {tr ti : Vec Ideal S64x128 .f32} {w1r w1i w1ir w1ii : Vec Ideal S64x64 .f32}
  {t2r t2i : Vec Ideal S128x64 .f32} {w2ir w2ii : Vec Ideal S128x128 .f32} {e : Vec Ideal S64x64 .f32}
  (T : Tables w2r w2i tr ti w1r w1i w1ir w1ii t2r t2i w2ir w2ii e)

include hx hy T

/-- The real part of the first factor. -/
theorem br_at (r : Fin 128) (n1 : Fin 64) (k2 : Fin 128) :
    k0_pay6 x y w2r w2i (ix3 r n1 k2) = ((Fourier.br (a r) (b r) n1 k2 : ℝ) : EReal) := by
  pointwise [k0_pay6, k0_pay4, k0_pay5]
  simp only [hx, hy, T.w2r, T.w2i, ← EReal.coe_mul, coe_sum, ← EReal.coe_sub, ← EReal.coe_add, Fourier.br, mul_comm 64]

/-- The imaginary part of the first factor, as the second part of the body sees it. -/
theorem bi_at (r : Fin 128) (n1 : Fin 64) (k2 : Fin 128) :
    k0_pay9 (k0_pay5 y) (k0_pay7 x w2i) (k0_pay8 w2r) (ix3 r n1 k2) = ((Fourier.bi (a r) (b r) n1 k2 : ℝ) : EReal) := by
  pointwise [k0_pay9, k0_pay7, k0_pay8, k0_pay4, k0_pay5]
  simp only [hx, hy, T.w2r, T.w2i, ← EReal.coe_mul, coe_sum, ← EReal.coe_sub, ← EReal.coe_add, Fourier.bi, mul_comm 64]

/-- The real part of the twiddled first factor. -/
theorem cr_at (r : Fin 128) (n1 : Fin 64) (k2 : Fin 128) :
    k0_pay10 (k0_pay5 y) (k0_pay6 x y w2r w2i) (k0_pay7 x w2i) (k0_pay8 w2r) tr ti (ix3 r n1 k2)
      = ((Fourier.cr (a r) (b r) n1 k2 : ℝ) : EReal) := by
  pointwise [k0_pay10]
  simp only [br_at a b hx hy T, bi_at a b hx hy T, T.tr, T.ti, ← EReal.coe_mul, ← EReal.coe_sub, Fourier.cr]

/-- The imaginary part of the twiddled first factor. -/
theorem ci_at (r : Fin 128) (n1 : Fin 64) (k2 : Fin 128) :
    k0_pay11 (k0_pay5 y) (k0_pay6 x y w2r w2i) (k0_pay7 x w2i) (k0_pay8 w2r) ti tr (ix3 r n1 k2)
      = ((Fourier.ci (a r) (b r) n1 k2 : ℝ) : EReal) := by
  pointwise [k0_pay11]
  simp only [br_at a b hx hy T, bi_at a b hx hy T, T.tr, T.ti, ← EReal.coe_mul, ← EReal.coe_add, Fourier.ci]

/-- The real part of the spectrum. -/
theorem zr_at (r : Fin 128) (k2 : Fin 128) (k1 : Fin 64) :
    k0_pay12 (k0_pay5 y) (k0_pay6 x y w2r w2i) (k0_pay7 x w2i) (k0_pay8 w2r) tr ti ti tr w1r w1i (ix3 r k2 k1)
      = ((Fourier.zr (a r) (b r) k2 k1 : ℝ) : EReal) := by
  pointwise [k0_pay12]
  simp only [cr_at a b hx hy T, ci_at a b hx hy T, T.w1r, T.w1i, ← EReal.coe_mul, coe_sum, ← EReal.coe_sub, Fourier.zr]

/-- The imaginary part of the spectrum. -/
theorem zi_at (r : Fin 128) (k2 : Fin 128) (k1 : Fin 64) :
    k0_pay13 (k0_pay5 y) (k0_pay6 x y w2r w2i) (k0_pay7 x w2i) (k0_pay8 w2r) tr ti ti tr w1i w1r (ix3 r k2 k1)
      = ((Fourier.zi (a r) (b r) k2 k1 : ℝ) : EReal) := by
  pointwise [k0_pay13]
  simp only [cr_at a b hx hy T, ci_at a b hx hy T, T.w1r, T.w1i, ← EReal.coe_mul, coe_sum, ← EReal.coe_add, Fourier.zi]

/-- The square of the real part of the spectrum. -/
theorem zr_sq_at (r : Fin 128) (k2 : Fin 128) (k1 : Fin 64) :
    k0_pay14 (k0_pay5 y) (k0_pay6 x y w2r w2i) (k0_pay7 x w2i) (k0_pay8 w2r) tr ti ti tr w1r w1i (ix3 r k2 k1)
      = ((Fourier.zr (a r) (b r) k2 k1 * Fourier.zr (a r) (b r) k2 k1 : ℝ) : EReal) := by
  pointwise [k0_pay14]
  simp only [zr_at a b hx hy T, ← EReal.coe_mul]

end Stages

section Inverse

variable (a b : Fin 128 → ℕ → ℝ) {v57 v64 v65 : FVec Ideal S128x128x64 .f32}
  (h57 : ∀ r (k2 : Fin 128) (k1 : Fin 64), v57 (ix3 r k2 k1) = ((Fourier.zr (a r) (b r) k2 k1 : ℝ) : EReal))
  (h64 : ∀ r (k2 : Fin 128) (k1 : Fin 64), v64 (ix3 r k2 k1) = ((Fourier.zi (a r) (b r) k2 k1 : ℝ) : EReal))
  (h65 : ∀ r (k2 : Fin 128) (k1 : Fin 64), v65 (ix3 r k2 k1)
    = ((Fourier.zr (a r) (b r) k2 k1 * Fourier.zr (a r) (b r) k2 k1 : ℝ) : EReal))
  {w2r w2i : Vec Ideal S128x128 .f32} {tr ti : Vec Ideal S64x128 .f32} {w1r w1i w1ir w1ii : Vec Ideal S64x64 .f32}
  {t2r t2i : Vec Ideal S128x64 .f32} {w2ir w2ii : Vec Ideal S128x128 .f32} {e : Vec Ideal S64x64 .f32}
  (T : Tables w2r w2i tr ti w1r w1i w1ir w1ii t2r t2i w2ir w2ii e)

include h57 h64 h65 T

/-- The real part of the first factor of the inverse transform. -/
theorem fr_at (r : Fin 128) (k2 : Fin 128) (n1 : Fin 64) :
    k0_pay17 v57 v64 v65 w1ir w1ii (ix3 r k2 n1) = ((Fourier.fr (a r) (b r) k2 n1 : ℝ) : EReal) := by
  pointwise [k0_pay17, k0_pay15, k0_pay16]
  simp only [h57, h64, h65, two_eq, T.w1ir, T.w1ii, ← EReal.coe_mul, ← EReal.coe_sub, coe_sum, Fourier.fr, Fourier.qr,
    Fourier.qi]

/-- The imaginary part of the first factor of the inverse transform. -/
theorem fi_at (r : Fin 128) (k2 : Fin 128) (n1 : Fin 64) :
    k0_pay18 v57 v64 v65 w1ii w1ir (ix3 r k2 n1) = ((Fourier.fi (a r) (b r) k2 n1 : ℝ) : EReal) := by
  pointwise [k0_pay18, k0_pay15, k0_pay16]
  simp only [h57, h64, h65, two_eq, T.w1ir, T.w1ii, ← EReal.coe_mul, ← EReal.coe_sub, ← EReal.coe_add, coe_sum, Fourier.fi,
    Fourier.qr, Fourier.qi]

/-- The real part of the twiddled factor of the inverse transform. -/
theorem gr_at (r : Fin 128) (k2 : Fin 128) (n1 : Fin 64) :
    k0_pay19 v57 v64 v65 w1ir w1ii w1ii w1ir t2r t2i (ix3 r k2 n1) = ((Fourier.gr (a r) (b r) k2 n1 : ℝ) : EReal) := by
  pointwise [k0_pay19]
  simp only [fr_at a b h57 h64 h65 T, fi_at a b h57 h64 h65 T, T.t2r, T.t2i, ← EReal.coe_mul, ← EReal.coe_sub, Fourier.gr]

/-- The first half of the imaginary part of the twiddled factor. -/
theorem gi_left_at (r : Fin 128) (k2 : Fin 128) (n1 : Fin 64) :
    k0_pay20 v57 v64 v65 w1ir w1ii t2i (ix3 r k2 n1)
      = ((Fourier.fr (a r) (b r) k2 n1 * Fourier.S (k2 * n1) : ℝ) : EReal) := by
  pointwise [k0_pay20]
  simp only [fr_at a b h57 h64 h65 T, T.t2i, ← EReal.coe_mul]

/-- The result of the inverse transform. -/
theorem out_at (r : Fin 128) (d : Fin 8192) :
    k0_pay1 (k0_pay18 v57 v64 v65 w1ii w1ir) (k0_pay19 v57 v64 v65 w1ir w1ii w1ii w1ir t2r t2i)
      (k0_pay20 v57 v64 v65 w1ir w1ii t2i) (k0_pay21 t2r) w2ii w2ir e (ix2 r d)
      = ((Fourier.out (a r) (b r) ((d : ℕ) / 64) ((d : ℕ) % 64) : ℝ) : EReal) := by
  have h104 : ∀ r (k2 : Fin 128) (n1 : Fin 64), k0_pay21 t2r (ix3 r k2 n1) = ((Fourier.C (k2 * n1) : ℝ) : EReal) :=
    fun r k2 n1 => by pointwise [k0_pay21]; exact T.t2r k2 n1
  pointwise [k0_pay1]
  simp only [fi_at a b h57 h64 h65 T, gr_at a b h57 h64 h65 T, gi_left_at a b h57 h64 h65 T, h104, T.w2ir, T.w2ii, T.e,
    ← EReal.coe_mul, ← EReal.coe_add, coe_sum, Fourier.out, Fourier.hi, Fourier.gi]

end Inverse

/-- What the body computes of one block, at row `r` and column `d`: the real number `Fourier.out` of the two sketches'
    rows. -/
theorem body_at (a b : Fin 128 → ℕ → ℝ)
    {x y : Vec Ideal S128x8192 .f32} (hx : ∀ r (d : Fin 8192), x (ix2 r d) = ((a r d : ℝ) : EReal))
    (hy : ∀ r (d : Fin 8192), y (ix2 r d) = ((b r d : ℝ) : EReal))
    {w2r w2i : Vec Ideal S128x128 .f32} {tr ti : Vec Ideal S64x128 .f32} {w1r w1i w1ir w1ii : Vec Ideal S64x64 .f32}
    {t2r t2i : Vec Ideal S128x64 .f32} {w2ir w2ii : Vec Ideal S128x128 .f32} {e : Vec Ideal S64x64 .f32}
    (T : Tables w2r w2i tr ti w1r w1i w1ir w1ii t2r t2i w2ir w2ii e) (r : Fin 128) (d : Fin 8192) :
    body x y w2r w2i tr ti w1r w1i w1ir w1ii t2r t2i w2ir w2ii e (ix2 r d)
      = ((Fourier.out (a r) (b r) ((d : ℕ) / 64) ((d : ℕ) % 64) : ℝ) : EReal) :=
  out_at a b (zr_at a b hx hy T) (zi_at a b hx hy T) (zr_sq_at a b hx hy T) T r d

/-- A trip's word for the column `d` is the number `d`. -/
theorem column_word (d : ℕ) (hd : d < 8192) :
    IntOp.addi (BitVec.ofNat 32 (d % 512)) (Scalar.muli (Scf.iv 0#32 1#32 (d / 512)) 512#32) = BitVec.ofNat 32 d := by
  apply BitVec.eq_of_toNat_eq
  simp [IntOp.addi, Scalar.muli, IntOp.muli, Scf.iv]
  omega

/-- A choice by equality of two words, read as a choice by their equality. -/
theorem select_eq_word (u v : BitVec 32) (p q : EReal) :
    Scalar.select (IntOp.cmpi CmpIPredicate.eq u v) p q = if v = u then p else q := by
  by_cases h : v = u
  · subst h; simp [Scalar.select, IntOp.cmpi]
  · have h' : (u == v) = false := beq_eq_false_iff_ne.mpr (Ne.symm h)
    simp [Scalar.select, IntOp.cmpi, h, h']

/-- The first sketch of a block of real rows `f` with signs `s`, at column `d`: the sum of the entries whose hash is `d`. -/
theorem sketch1_at {f : Vec Ideal S128x2048 .f32} {h : Vec Ideal S2048x1 .i32} {s : Vec Ideal S2048x1 .f32}
    (f' : Fin 128 → Fin 2048 → ℝ) (s' : Fin 2048 → ℝ) (hf : ∀ r i, f (ix2 r i) = ((f' r i : ℝ) : EReal))
    (hs : ∀ i, s (ix2 i 0) = ((s' i : ℝ) : EReal)) (r : Fin 128) (d : Fin 8192) :
    sketch1 f h s (ix2 r d)
      = ((∑ i, (if h (ix2 i 0) = BitVec.ofNat 32 d then f' r i * s' i else 0) : ℝ) : EReal) := by
  unfold sketch1
  show k0_pay2 f h s ⟨(d : ℕ) / 512, _⟩ (ix2 r (⟨(d : ℕ) % 512, _⟩ : Fin 512)) = _
  pointwise [k0_pay2]
  simp only [column_word d d.isLt, select_eq_word, hf, hs, ← EReal.coe_mul]
  rw [← coe_sum]
  refine Finset.sum_congr rfl fun i _ => ?_
  split <;> simp

/-- The second sketch of a block, likewise. -/
theorem sketch2_at {f : Vec Ideal S128x2048 .f32} {h : Vec Ideal S2048x1 .i32} {s : Vec Ideal S2048x1 .f32}
    (f' : Fin 128 → Fin 2048 → ℝ) (s' : Fin 2048 → ℝ) (hf : ∀ r i, f (ix2 r i) = ((f' r i : ℝ) : EReal))
    (hs : ∀ i, s (ix2 i 0) = ((s' i : ℝ) : EReal)) (r : Fin 128) (d : Fin 8192) :
    sketch2 f h s (ix2 r d)
      = ((∑ i, (if h (ix2 i 0) = BitVec.ofNat 32 d then f' r i * s' i else 0) : ℝ) : EReal) := by
  unfold sketch2
  show k0_pay3 f h s ⟨(d : ℕ) / 512, _⟩ (ix2 r (⟨(d : ℕ) % 512, _⟩ : Fin 512)) = _
  pointwise [k0_pay3]
  simp only [column_word d d.isLt, select_eq_word, hf, hs, ← EReal.coe_mul]
  rw [← coe_sum]
  refine Finset.sum_congr rfl fun i _ => ?_
  split <;> simp

end Cert.KernelIdeal.Body
-- ==== Proof.Tables.lean ====
/-
  The tables that the kernel's program prepares before the launch, read at an index: the cosines and the sines of the
  angles of the transforms, and the identity matrix.
-/
module

public import proofs.«01_k».proof.Proof.Block

@[expose] public section

set_option maxRecDepth 16384

noncomputable section

namespace Cert.KernelIdeal.Body

open Cert.KernelIdeal Cert.KernelIdeal.Gen Idealize.ShloMosaic Idealize.ShloMosaic.TcCoe

variable (m : (ℓ : Loc nD τ sig) → Buf (Elt Ideal) ℓ) (c : Dev nD)

/-- The angle of the point (-1, 0) is π. -/
theorem pi_eq : Ideal.atan2 0 (Ideal.ofBits FTy.f32 0xBF800000#32) = ((Real.pi : ℝ) : EReal) := by
  have h1 : Ideal.ofBits FTy.f32 0xBF800000#32 = ((-1 : ℝ) : EReal) := by
    simp [Ideal.ofBits, Ideal.ieee, -EReal.coe_mul]; norm_num
  rw [h1, ← EReal.coe_zero]
  show ((_ : ℝ) : EReal) = _
  norm_num

/-- The word 1/64. -/
theorem word_64 : Ideal.ofBits FTy.f32 0x3C800000#32 = ((1 / 64 : ℝ) : EReal) := by
  simp [Ideal.ofBits, Ideal.ieee, -EReal.coe_mul]; norm_num
/-- The word 1/32. -/
theorem word_32 : Ideal.ofBits FTy.f32 0x3D000000#32 = ((1 / 32 : ℝ) : EReal) := by
  simp [Ideal.ofBits, Ideal.ieee, -EReal.coe_mul]; norm_num
/-- The word 1/4096. -/
theorem word_4096 : Ideal.ofBits FTy.f32 0x39800000#32 = ((1 / 4096 : ℝ) : EReal) := by
  simp [Ideal.ofBits, Ideal.ieee, -EReal.coe_mul]; norm_num
/-- The word 1/16384. -/
theorem word_16384 : Ideal.ofBits FTy.f32 0x38800000#32 = ((1 / 16384 : ℝ) : EReal) := by
  simp [Ideal.ofBits, Ideal.ieee, -EReal.coe_mul]; norm_num

/-- The product of two small numbers, reduced by a mask of ones, as a word. -/
theorem masked (i j k : ℕ) (hk : k ≤ 13) (hi : i < 128) (hj : j < 128) :
    (IntOp.andi (IntOp.muli (BitVec.ofNat 32 i) (BitVec.ofNat 32 j)) (BitVec.ofNat 32 (2 ^ k - 1))).toInt = ((i * j % 2 ^ k : ℕ) : ℤ) := by
  have hij : i * j < 128 * 128 := Nat.mul_lt_mul'' hi hj
  have hk' : 2 ^ k ≤ 2 ^ 13 := Nat.pow_le_pow_right (by norm_num) hk
  have h : (IntOp.andi (IntOp.muli (BitVec.ofNat 32 i) (BitVec.ofNat 32 j)) (BitVec.ofNat 32 (2 ^ k - 1))).toNat = i * j % 2 ^ k := by
    show (BitVec.ofNat 32 i * BitVec.ofNat 32 j &&& BitVec.ofNat 32 (2 ^ k - 1)).toNat = _
    rw [BitVec.toNat_and, BitVec.toNat_mul, BitVec.toNat_ofNat, BitVec.toNat_ofNat, BitVec.toNat_ofNat, ← Nat.mul_mod,
      Nat.mod_eq_of_lt (by omega), Nat.mod_eq_of_lt (a := 2 ^ k - 1) (by omega), Nat.and_two_pow_sub_one_eq_mod]
  have hlt : i * j % 2 ^ k ≤ i * j := Nat.mod_le _ _
  rw [BitVec.toInt_eq_toNat_of_lt (by rw [h]; omega), h]

/-- The words of the identity matrix. -/
theorem lit0_eq : ∀ i : Fin 4096, lit0 i = if (i : ℕ) / 64 = (i : ℕ) % 64 then 0x3F800000#32 else 0x00000000#32 := by
  decide +kernel

/-- The angles 2 π i j / 128, the products reduced below one turn, 128 by 128. -/
def turn128 : FVec Ideal S128x128 .f32 :=
  mulf (sitofp .f32 (andi (muli (iotaInDim S128x128 32 0) (iotaInDim S128x128 32 1))
    (broadcastInDim S128x128 ![] bcast_S_S128x128 (constantI S_ 32 127#32))))
    (broadcastInDim S128x128 ![] bcast_S_S128x128
      (mulf (Host.atan2 (constant S_ .f32 0x00000000#32) (constant S_ .f32 0xBF800000#32)) (constant S_ .f32 0x3C800000#32)))

/-- Such an angle at an index. -/
theorem turn128_at (i : Fin 128) (j : Fin 128) :
    turn128 (ix2 i j) = ((((i * j % 128 * 64 : ℕ) : ℝ) * (1 / 4096 * Real.pi) : ℝ) : EReal) := by
  pointwise [turn128]
  have h : FloatOps.sitofp (F := Ideal) FTy.f32 (IntOp.andi (IntOp.muli (BitVec.ofNat 32 ↑i) (BitVec.ofNat 32 ↑j)) 127#32)
      = (((i * j % 128 : ℕ) : ℝ) : EReal) := by
    show (((IntOp.andi (IntOp.muli (BitVec.ofNat 32 ↑i) (BitVec.ofNat 32 ↑j)) 127#32).toInt : ℝ) : EReal) = _
    rw [show (IntOp.andi (IntOp.muli (BitVec.ofNat 32 ↑i) (BitVec.ofNat 32 ↑j)) 127#32).toInt = ((i * j % 128 : ℕ) : ℤ) from
      masked i j 7 (by norm_num) (by omega) (by omega), Int.cast_natCast]
  rw [h, pi_eq, word_64, ← EReal.coe_mul, ← EReal.coe_mul]
  congr 1
  push_cast
  ring

/-- The cosine of such an angle. -/
theorem cos_turn128 (i : Fin 128) (j : Fin 128) : (Host.cos turn128 : FVec Ideal S128x128 .f32) (ix2 i j) = ((Fourier.C (64 * (i * j)) : ℝ) : EReal) := by
  show Ideal.cos (turn128 (ix2 i j)) = _
  rw [turn128_at, Ideal.cos_coe]
  exact congrArg _ (Fourier.C_mod (by omega))

/-- The sine of such an angle. -/
theorem sin_turn128 (i : Fin 128) (j : Fin 128) : (Host.sin turn128 : FVec Ideal S128x128 .f32) (ix2 i j) = ((Fourier.S (64 * (i * j)) : ℝ) : EReal) := by
  show Ideal.sin (turn128 (ix2 i j)) = _
  rw [turn128_at, Ideal.sin_coe]
  exact congrArg _ (Fourier.S_mod (by omega))

/-- The angles 2 π i j / 8192, the products reduced below one turn, 64 by 128. -/
def turnTwiddle : FVec Ideal S64x128 .f32 :=
  mulf (sitofp .f32 (andi (muli (iotaInDim S64x128 32 0) (iotaInDim S64x128 32 1))
    (broadcastInDim S64x128 ![] bcast_S_S64x128 (constantI S_ 32 8191#32))))
    (broadcastInDim S64x128 ![] bcast_S_S64x128
      (mulf (Host.atan2 (constant S_ .f32 0x00000000#32) (constant S_ .f32 0xBF800000#32)) (constant S_ .f32 0x39800000#32)))

/-- Such an angle at an index. -/
theorem turnTwiddle_at (i : Fin 64) (j : Fin 128) :
    turnTwiddle (ix2 i j) = ((((i * j % 8192 * 1 : ℕ) : ℝ) * (1 / 4096 * Real.pi) : ℝ) : EReal) := by
  pointwise [turnTwiddle]
  have h : FloatOps.sitofp (F := Ideal) FTy.f32 (IntOp.andi (IntOp.muli (BitVec.ofNat 32 ↑i) (BitVec.ofNat 32 ↑j)) 8191#32)
      = (((i * j % 8192 : ℕ) : ℝ) : EReal) := by
    show (((IntOp.andi (IntOp.muli (BitVec.ofNat 32 ↑i) (BitVec.ofNat 32 ↑j)) 8191#32).toInt : ℝ) : EReal) = _
    rw [show (IntOp.andi (IntOp.muli (BitVec.ofNat 32 ↑i) (BitVec.ofNat 32 ↑j)) 8191#32).toInt = ((i * j % 8192 : ℕ) : ℤ) from
      masked i j 13 (by norm_num) (by omega) (by omega), Int.cast_natCast]
  rw [h, pi_eq, word_4096, ← EReal.coe_mul, ← EReal.coe_mul]
  congr 1
  push_cast
  ring

/-- The cosine of such an angle. -/
theorem cos_turnTwiddle (i : Fin 64) (j : Fin 128) : (Host.cos turnTwiddle : FVec Ideal S64x128 .f32) (ix2 i j) = ((Fourier.C (1 * (i * j)) : ℝ) : EReal) := by
  show Ideal.cos (turnTwiddle (ix2 i j)) = _
  rw [turnTwiddle_at, Ideal.cos_coe]
  exact congrArg _ (Fourier.C_mod (by omega))

/-- The sine of such an angle. -/
theorem sin_turnTwiddle (i : Fin 64) (j : Fin 128) : (Host.sin turnTwiddle : FVec Ideal S64x128 .f32) (ix2 i j) = ((Fourier.S (1 * (i * j)) : ℝ) : EReal) := by
  show Ideal.sin (turnTwiddle (ix2 i j)) = _
  rw [turnTwiddle_at, Ideal.sin_coe]
  exact congrArg _ (Fourier.S_mod (by omega))

/-- The angles 2 π i j / 64, the products reduced below one turn, 64 by 64. -/
def turn64 : FVec Ideal S64x64 .f32 :=
  mulf (sitofp .f32 (andi (muli (iotaInDim S64x64 32 0) (iotaInDim S64x64 32 1))
    (broadcastInDim S64x64 ![] bcast_S_S64x64 (constantI S_ 32 63#32))))
    (broadcastInDim S64x64 ![] bcast_S_S64x64
      (mulf (Host.atan2 (constant S_ .f32 0x00000000#32) (constant S_ .f32 0xBF800000#32)) (constant S_ .f32 0x3D000000#32)))

/-- Such an angle at an index. -/
theorem turn64_at (i : Fin 64) (j : Fin 64) :
    turn64 (ix2 i j) = ((((i * j % 64 * 128 : ℕ) : ℝ) * (1 / 4096 * Real.pi) : ℝ) : EReal) := by
  pointwise [turn64]
  have h : FloatOps.sitofp (F := Ideal) FTy.f32 (IntOp.andi (IntOp.muli (BitVec.ofNat 32 ↑i) (BitVec.ofNat 32 ↑j)) 63#32)
      = (((i * j % 64 : ℕ) : ℝ) : EReal) := by
    show (((IntOp.andi (IntOp.muli (BitVec.ofNat 32 ↑i) (BitVec.ofNat 32 ↑j)) 63#32).toInt : ℝ) : EReal) = _
    rw [show (IntOp.andi (IntOp.muli (BitVec.ofNat 32 ↑i) (BitVec.ofNat 32 ↑j)) 63#32).toInt = ((i * j % 64 : ℕ) : ℤ) from
      masked i j 6 (by norm_num) (by omega) (by omega), Int.cast_natCast]
  rw [h, pi_eq, word_32, ← EReal.coe_mul, ← EReal.coe_mul]
  congr 1
  push_cast
  ring

/-- The cosine of such an angle. -/
theorem cos_turn64 (i : Fin 64) (j : Fin 64) : (Host.cos turn64 : FVec Ideal S64x64 .f32) (ix2 i j) = ((Fourier.C (128 * (i * j)) : ℝ) : EReal) := by
  show Ideal.cos (turn64 (ix2 i j)) = _
  rw [turn64_at, Ideal.cos_coe]
  exact congrArg _ (Fourier.C_mod (by omega))

/-- The sine of such an angle. -/
theorem sin_turn64 (i : Fin 64) (j : Fin 64) : (Host.sin turn64 : FVec Ideal S64x64 .f32) (ix2 i j) = ((Fourier.S (128 * (i * j)) : ℝ) : EReal) := by
  show Ideal.sin (turn64 (ix2 i j)) = _
  rw [turn64_at, Ideal.sin_coe]
  exact congrArg _ (Fourier.S_mod (by omega))

/-- The angles 2 π i j / 8192, the products reduced below one turn, 128 by 64. -/
def turnTwiddle' : FVec Ideal S128x64 .f32 :=
  mulf (sitofp .f32 (andi (muli (iotaInDim S128x64 32 0) (iotaInDim S128x64 32 1))
    (broadcastInDim S128x64 ![] bcast_S_S128x64 (constantI S_ 32 8191#32))))
    (broadcastInDim S128x64 ![] bcast_S_S128x64
      (mulf (Host.atan2 (constant S_ .f32 0x00000000#32) (constant S_ .f32 0xBF800000#32)) (constant S_ .f32 0x39800000#32)))

/-- Such an angle at an index. -/
theorem turnTwiddle'_at (i : Fin 128) (j : Fin 64) :
    turnTwiddle' (ix2 i j) = ((((i * j % 8192 * 1 : ℕ) : ℝ) * (1 / 4096 * Real.pi) : ℝ) : EReal) := by
  pointwise [turnTwiddle']
  have h : FloatOps.sitofp (F := Ideal) FTy.f32 (IntOp.andi (IntOp.muli (BitVec.ofNat 32 ↑i) (BitVec.ofNat 32 ↑j)) 8191#32)
      = (((i * j % 8192 : ℕ) : ℝ) : EReal) := by
    show (((IntOp.andi (IntOp.muli (BitVec.ofNat 32 ↑i) (BitVec.ofNat 32 ↑j)) 8191#32).toInt : ℝ) : EReal) = _
    rw [show (IntOp.andi (IntOp.muli (BitVec.ofNat 32 ↑i) (BitVec.ofNat 32 ↑j)) 8191#32).toInt = ((i * j % 8192 : ℕ) : ℤ) from
      masked i j 13 (by norm_num) (by omega) (by omega), Int.cast_natCast]
  rw [h, pi_eq, word_4096, ← EReal.coe_mul, ← EReal.coe_mul]
  congr 1
  push_cast
  ring

/-- The cosine of such an angle. -/
theorem cos_turnTwiddle' (i : Fin 128) (j : Fin 64) : (Host.cos turnTwiddle' : FVec Ideal S128x64 .f32) (ix2 i j) = ((Fourier.C (1 * (i * j)) : ℝ) : EReal) := by
  show Ideal.cos (turnTwiddle' (ix2 i j)) = _
  rw [turnTwiddle'_at, Ideal.cos_coe]
  exact congrArg _ (Fourier.C_mod (by omega))

/-- The sine of such an angle. -/
theorem sin_turnTwiddle' (i : Fin 128) (j : Fin 64) : (Host.sin turnTwiddle' : FVec Ideal S128x64 .f32) (ix2 i j) = ((Fourier.S (1 * (i * j)) : ℝ) : EReal) := by
  show Ideal.sin (turnTwiddle' (ix2 i j)) = _
  rw [turnTwiddle'_at, Ideal.sin_coe]
  exact congrArg _ (Fourier.S_mod (by omega))

/-- What the buffer `w2r` holds at the launch. -/
theorem w2r_eq : V m c main_call0_v37 = (Host.cos turn128 : FVec Ideal S128x128 .f32) := by
  unfold_abbrev_sides
  after_results
  rfl
/-- It, at an index. -/
theorem w2r_at (i : Fin 128) (j : Fin 128) : V m c main_call0_v37 (ix2 i j) = ((Fourier.C (64 * (i * j)) : ℝ) : EReal) := by
  rw [show V m c main_call0_v37 (ix2 i j) = (Host.cos turn128 : FVec Ideal S128x128 .f32) (ix2 i j) from congrFun (w2r_eq m c) _]
  exact cos_turn128 i j

/-- What the buffer `w2i` holds at the launch. -/
theorem w2i_eq : V m c main_call0_v39 = (Host.negf (Host.sin turn128) : FVec Ideal S128x128 .f32) := by
  unfold_abbrev_sides
  after_results
  rfl
/-- It, at an index. -/
theorem w2i_at (i : Fin 128) (j : Fin 128) : V m c main_call0_v39 (ix2 i j) = ((-Fourier.S (64 * (i * j)) : ℝ) : EReal) := by
  rw [show V m c main_call0_v39 (ix2 i j) = (Host.negf (Host.sin turn128) : FVec Ideal S128x128 .f32) (ix2 i j) from congrFun (w2i_eq m c) _]
  show -((Host.sin turn128 : FVec Ideal S128x128 .f32) (ix2 i j)) = _
  rw [sin_turn128, ← EReal.coe_neg]

/-- What the buffer `tr` holds at the launch. -/
theorem tr_eq : V m c main_call0_v40 = (Host.cos turnTwiddle : FVec Ideal S64x128 .f32) := by
  unfold_abbrev_sides
  after_results
  rfl
/-- It, at an index. -/
theorem tr_at (i : Fin 64) (j : Fin 128) : V m c main_call0_v40 (ix2 i j) = ((Fourier.C (i * j) : ℝ) : EReal) := by
  rw [show V m c main_call0_v40 (ix2 i j) = (Host.cos turnTwiddle : FVec Ideal S64x128 .f32) (ix2 i j) from congrFun (tr_eq m c) _]
  exact (cos_turnTwiddle i j).trans (by simp only [one_mul])

/-- What the buffer `ti` holds at the launch. -/
theorem ti_eq : V m c main_call0_v42 = (Host.negf (Host.sin turnTwiddle) : FVec Ideal S64x128 .f32) := by
  unfold_abbrev_sides
  after_results
  rfl
/-- It, at an index. -/
theorem ti_at (i : Fin 64) (j : Fin 128) : V m c main_call0_v42 (ix2 i j) = ((-Fourier.S (i * j) : ℝ) : EReal) := by
  rw [show V m c main_call0_v42 (ix2 i j) = (Host.negf (Host.sin turnTwiddle) : FVec Ideal S64x128 .f32) (ix2 i j) from congrFun (ti_eq m c) _]
  show -((Host.sin turnTwiddle : FVec Ideal S64x128 .f32) (ix2 i j)) = _
  rw [sin_turnTwiddle, ← EReal.coe_neg, one_mul]

/-- What the buffer `w1r` holds at the launch. -/
theorem w1r_eq : V m c main_call0_v43 = (Host.cos turn64 : FVec Ideal S64x64 .f32) := by
  unfold_abbrev_sides
  after_results
  rfl
/-- It, at an index. -/
theorem w1r_at (i : Fin 64) (j : Fin 64) : V m c main_call0_v43 (ix2 i j) = ((Fourier.C (128 * (i * j)) : ℝ) : EReal) := by
  rw [show V m c main_call0_v43 (ix2 i j) = (Host.cos turn64 : FVec Ideal S64x64 .f32) (ix2 i j) from congrFun (w1r_eq m c) _]
  exact cos_turn64 i j

/-- What the buffer `w1i` holds at the launch. -/
theorem w1i_eq : V m c main_call0_v45 = (Host.negf (Host.sin turn64) : FVec Ideal S64x64 .f32) := by
  unfold_abbrev_sides
  after_results
  rfl
/-- It, at an index. -/
theorem w1i_at (i : Fin 64) (j : Fin 64) : V m c main_call0_v45 (ix2 i j) = ((-Fourier.S (128 * (i * j)) : ℝ) : EReal) := by
  rw [show V m c main_call0_v45 (ix2 i j) = (Host.negf (Host.sin turn64) : FVec Ideal S64x64 .f32) (ix2 i j) from congrFun (w1i_eq m c) _]
  show -((Host.sin turn64 : FVec Ideal S64x64 .f32) (ix2 i j)) = _
  rw [sin_turn64, ← EReal.coe_neg]

/-- What the buffer `w1ir` holds at the launch. -/
theorem w1ir_eq : V m c main_call0_v46 = (Host.cos turn64 : FVec Ideal S64x64 .f32) := by
  unfold_abbrev_sides
  after_results
  rfl
/-- It, at an index. -/
theorem w1ir_at (i : Fin 64) (j : Fin 64) : V m c main_call0_v46 (ix2 i j) = ((Fourier.C (128 * (i * j)) : ℝ) : EReal) := by
  rw [show V m c main_call0_v46 (ix2 i j) = (Host.cos turn64 : FVec Ideal S64x64 .f32) (ix2 i j) from congrFun (w1ir_eq m c) _]
  exact cos_turn64 i j

/-- What the buffer `w1ii` holds at the launch. -/
theorem w1ii_eq : V m c main_call0_v47 = (Host.sin turn64 : FVec Ideal S64x64 .f32) := by
  unfold_abbrev_sides
  after_results
  rfl
/-- It, at an index. -/
theorem w1ii_at (i : Fin 64) (j : Fin 64) : V m c main_call0_v47 (ix2 i j) = ((Fourier.S (128 * (i * j)) : ℝ) : EReal) := by
  rw [show V m c main_call0_v47 (ix2 i j) = (Host.sin turn64 : FVec Ideal S64x64 .f32) (ix2 i j) from congrFun (w1ii_eq m c) _]
  exact sin_turn64 i j

/-- What the buffer `t2r` holds at the launch. -/
theorem t2r_eq : V m c main_call0_v48 = (Host.cos turnTwiddle' : FVec Ideal S128x64 .f32) := by
  unfold_abbrev_sides
  after_results
  rfl
/-- It, at an index. -/
theorem t2r_at (i : Fin 128) (j : Fin 64) : V m c main_call0_v48 (ix2 i j) = ((Fourier.C (i * j) : ℝ) : EReal) := by
  rw [show V m c main_call0_v48 (ix2 i j) = (Host.cos turnTwiddle' : FVec Ideal S128x64 .f32) (ix2 i j) from congrFun (t2r_eq m c) _]
  exact (cos_turnTwiddle' i j).trans (by simp only [one_mul])

/-- What the buffer `t2i` holds at the launch. -/
theorem t2i_eq : V m c main_call0_v49 = (Host.sin turnTwiddle' : FVec Ideal S128x64 .f32) := by
  unfold_abbrev_sides
  after_results
  rfl
/-- It, at an index. -/
theorem t2i_at (i : Fin 128) (j : Fin 64) : V m c main_call0_v49 (ix2 i j) = ((Fourier.S (i * j) : ℝ) : EReal) := by
  rw [show V m c main_call0_v49 (ix2 i j) = (Host.sin turnTwiddle' : FVec Ideal S128x64 .f32) (ix2 i j) from congrFun (t2i_eq m c) _]
  exact (sin_turnTwiddle' i j).trans (by simp only [one_mul])

/-- What the buffer `w2ir` holds at the launch. -/
theorem w2ir_eq : V m c main_call0_v52 = (mulf (Host.cos turn128) (broadcastInDim S128x128 ![] bcast_S_S128x128 (constant S_ .f32 0x38800000#32)) : FVec Ideal S128x128 .f32) := by
  unfold_abbrev_sides
  after_results
  rfl
/-- It, at an index. -/
theorem w2ir_at (i : Fin 128) (j : Fin 128) : V m c main_call0_v52 (ix2 i j) = ((Fourier.C (64 * (i * j)) * (1 / 16384) : ℝ) : EReal) := by
  rw [show V m c main_call0_v52 (ix2 i j) = (mulf (Host.cos turn128) (broadcastInDim S128x128 ![] bcast_S_S128x128 (constant S_ .f32 0x38800000#32)) : FVec Ideal S128x128 .f32) (ix2 i j) from congrFun (w2ir_eq m c) _]
  pointwise
  rw [show Ideal.cos (turn128 (ix2 i j)) = _ from cos_turn128 i j, word_16384, ← EReal.coe_mul]

/-- What the buffer `w2ii` holds at the launch. -/
theorem w2ii_eq : V m c main_call0_v55 = (mulf (Host.sin turn128) (broadcastInDim S128x128 ![] bcast_S_S128x128 (constant S_ .f32 0x38800000#32)) : FVec Ideal S128x128 .f32) := by
  unfold_abbrev_sides
  after_results
  rfl
/-- It, at an index. -/
theorem w2ii_at (i : Fin 128) (j : Fin 128) : V m c main_call0_v55 (ix2 i j) = ((Fourier.S (64 * (i * j)) * (1 / 16384) : ℝ) : EReal) := by
  rw [show V m c main_call0_v55 (ix2 i j) = (mulf (Host.sin turn128) (broadcastInDim S128x128 ![] bcast_S_S128x128 (constant S_ .f32 0x38800000#32)) : FVec Ideal S128x128 .f32) (ix2 i j) from congrFun (w2ii_eq m c) _]
  pointwise
  rw [show Ideal.sin (turn128 (ix2 i j)) = _ from sin_turn128 i j, word_16384, ← EReal.coe_mul]

/-- What the identity matrix holds at the launch. -/
theorem e_eq : V m c main_call0_cst = (fun i => FloatOps.ofBits .f32 (lit0 (S64x64.rowMajor i)) : FVec Ideal S64x64 .f32) := by
  unfold_abbrev_sides
  after_results
  rfl
/-- It, at an index. -/
theorem e_at (i j : Fin 64) : V m c main_call0_cst (ix2 i j) = (((if (i : ℕ) = (j : ℕ) then 1 else 0) : ℝ) : EReal) := by
  have h : (S64x64.rowMajor (ix2 i j)).val = i * 64 + j := Shape.rowMajor_val_two (ix2 i j)
  have h' : (⟨i * 64 + j, by omega⟩ : Fin 4096) = S64x64.rowMajor (ix2 i j) := Fin.ext h.symm
  rw [show V m c main_call0_cst (ix2 i j) = Ideal.ofBits .f32 (lit0 (S64x64.rowMajor (ix2 i j))) from congrFun (e_eq m c) _]
  refine (congrArg (fun k => Ideal.ofBits .f32 (lit0 k)) h'.symm).trans ?_
  show Ideal.ofBits .f32 (lit0 ⟨i * 64 + j, _⟩) = _
  rw [lit0_eq]
  simp only [show ((i : ℕ) * 64 + j) / 64 = i by omega, show ((i : ℕ) * 64 + j) % 64 = j by omega]
  split
  · exact Ideal.ofBits_one_f32
  · exact Ideal.ofBits_zero_f32.trans EReal.coe_zero.symm

end Cert.KernelIdeal.Body
-- ==== Proof.Blocks.lean ====
/-
  The blocks of the tables: at every grid point the launch hands the body each table whole.
-/
module

public import proofs.«01_k».proof.Proof.Tables

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ) (c : Dev nD)

/-- The block of window 6 is its whole array. -/
theorem iblk6 (t : Fin cfg0.N) (i : Fin 128) (j : Fin 128) : (iblk m c 6 t : FVec Ideal S128x128 .f32) (ix2 i j) = V m c main_call0_v37 (ix2 i j) := by
  have h : ∀ t : Fin grid0.N, win0_6.index t = ![0, 0] := by decide +kernel
  blk_ext [iblk, h t]

/-- The block of window 7 is its whole array. -/
theorem iblk7 (t : Fin cfg0.N) (i : Fin 128) (j : Fin 128) : (iblk m c 7 t : FVec Ideal S128x128 .f32) (ix2 i j) = V m c main_call0_v39 (ix2 i j) := by
  have h : ∀ t : Fin grid0.N, win0_7.index t = ![0, 0] := by decide +kernel
  blk_ext [iblk, h t]

/-- The block of window 8 is its whole array. -/
theorem iblk8 (t : Fin cfg0.N) (i : Fin 64) (j : Fin 128) : (iblk m c 8 t : FVec Ideal S64x128 .f32) (ix2 i j) = V m c main_call0_v40 (ix2 i j) := by
  have h : ∀ t : Fin grid0.N, win0_8.index t = ![0, 0] := by decide +kernel
  blk_ext [iblk, h t]

/-- The block of window 9 is its whole array. -/
theorem iblk9 (t : Fin cfg0.N) (i : Fin 64) (j : Fin 128) : (iblk m c 9 t : FVec Ideal S64x128 .f32) (ix2 i j) = V m c main_call0_v42 (ix2 i j) := by
  have h : ∀ t : Fin grid0.N, win0_9.index t = ![0, 0] := by decide +kernel
  blk_ext [iblk, h t]

/-- The block of window 10 is its whole array. -/
theorem iblk10 (t : Fin cfg0.N) (i : Fin 64) (j : Fin 64) : (iblk m c 10 t : FVec Ideal S64x64 .f32) (ix2 i j) = V m c main_call0_v43 (ix2 i j) := by
  have h : ∀ t : Fin grid0.N, win0_10.index t = ![0, 0] := by decide +kernel
  blk_ext [iblk, h t]

/-- The block of window 11 is its whole array. -/
theorem iblk11 (t : Fin cfg0.N) (i : Fin 64) (j : Fin 64) : (iblk m c 11 t : FVec Ideal S64x64 .f32) (ix2 i j) = V m c main_call0_v45 (ix2 i j) := by
  have h : ∀ t : Fin grid0.N, win0_11.index t = ![0, 0] := by decide +kernel
  blk_ext [iblk, h t]

/-- The block of window 12 is its whole array. -/
theorem iblk12 (t : Fin cfg0.N) (i : Fin 64) (j : Fin 64) : (iblk m c 12 t : FVec Ideal S64x64 .f32) (ix2 i j) = V m c main_call0_v46 (ix2 i j) := by
  have h : ∀ t : Fin grid0.N, win0_12.index t = ![0, 0] := by decide +kernel
  blk_ext [iblk, h t]

/-- The block of window 13 is its whole array. -/
theorem iblk13 (t : Fin cfg0.N) (i : Fin 64) (j : Fin 64) : (iblk m c 13 t : FVec Ideal S64x64 .f32) (ix2 i j) = V m c main_call0_v47 (ix2 i j) := by
  have h : ∀ t : Fin grid0.N, win0_13.index t = ![0, 0] := by decide +kernel
  blk_ext [iblk, h t]

/-- The block of window 14 is its whole array. -/
theorem iblk14 (t : Fin cfg0.N) (i : Fin 128) (j : Fin 64) : (iblk m c 14 t : FVec Ideal S128x64 .f32) (ix2 i j) = V m c main_call0_v48 (ix2 i j) := by
  have h : ∀ t : Fin grid0.N, win0_14.index t = ![0, 0] := by decide +kernel
  blk_ext [iblk, h t]

/-- The block of window 15 is its whole array. -/
theorem iblk15 (t : Fin cfg0.N) (i : Fin 128) (j : Fin 64) : (iblk m c 15 t : FVec Ideal S128x64 .f32) (ix2 i j) = V m c main_call0_v49 (ix2 i j) := by
  have h : ∀ t : Fin grid0.N, win0_15.index t = ![0, 0] := by decide +kernel
  blk_ext [iblk, h t]

/-- The block of window 16 is its whole array. -/
theorem iblk16 (t : Fin cfg0.N) (i : Fin 128) (j : Fin 128) : (iblk m c 16 t : FVec Ideal S128x128 .f32) (ix2 i j) = V m c main_call0_v52 (ix2 i j) := by
  have h : ∀ t : Fin grid0.N, win0_16.index t = ![0, 0] := by decide +kernel
  blk_ext [iblk, h t]

/-- The block of window 17 is its whole array. -/
theorem iblk17 (t : Fin cfg0.N) (i : Fin 128) (j : Fin 128) : (iblk m c 17 t : FVec Ideal S128x128 .f32) (ix2 i j) = V m c main_call0_v55 (ix2 i j) := by
  have h : ∀ t : Fin grid0.N, win0_17.index t = ![0, 0] := by decide +kernel
  blk_ext [iblk, h t]

/-- The block of window 18 is its whole array. -/
theorem iblk18 (t : Fin cfg0.N) (i : Fin 64) (j : Fin 64) : (iblk m c 18 t : FVec Ideal S64x64 .f32) (ix2 i j) = V m c main_call0_cst (ix2 i j) := by
  have h : ∀ t : Fin grid0.N, win0_18.index t = ![0, 0] := by decide +kernel
  blk_ext [iblk, h t]

/-- The blocks of the windows 6 to 18 are the tables. -/
theorem tables (t : Fin cfg0.N) : Tables (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) where
  w2r i j := (iblk6 m c t i j).trans (w2r_at m c i j)
  w2i i j := (iblk7 m c t i j).trans (w2i_at m c i j)
  tr i j := (iblk8 m c t i j).trans (tr_at m c i j)
  ti i j := (iblk9 m c t i j).trans (ti_at m c i j)
  w1r i j := (iblk10 m c t i j).trans (w1r_at m c i j)
  w1i i j := (iblk11 m c t i j).trans (w1i_at m c i j)
  w1ir i j := (iblk12 m c t i j).trans (w1ir_at m c i j)
  w1ii i j := (iblk13 m c t i j).trans (w1ii_at m c i j)
  t2r i j := (iblk14 m c t i j).trans (t2r_at m c i j)
  t2i i j := (iblk15 m c t i j).trans (t2i_at m c i j)
  w2ir i j := (iblk16 m c t i j).trans (w2ir_at m c i j)
  w2ii i j := (iblk17 m c t i j).trans (w2ii_at m c i j)
  e i j := (iblk18 m c t i j).trans (e_at m c i j)

end Cert.KernelIdeal.Body
-- ==== Proof.KernelValue.lean ====
/-
  What the kernel leaves in its result: the blocks of the features, the buckets and the signs at an index, the block that
  a grid point writes, and the whole array after the run.
-/
module

public import proofs.«01_k».proof.Proof.Blocks

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Row `r` of the block of the first feature is row `128 t + r` of the array. -/
theorem iblk0 (t : Fin cfg0.N) (r : Fin 128) (i : Fin 2048) (R : Fin 1024) (hR : (R : ℕ) = 128 * t + r) :
    (iblk m c 0 t : FVec Ideal S128x2048 .f32) (ix2 r i) = m ((c : Thread nD τ).loc main_arg0) (ix2 R i) := by
  have h : ∀ t : Fin grid0.N, win0_0.index t = ![(t : ℕ), 0] := by decide +kernel
  have e : (iblk m c 0 t : FVec Ideal S128x2048 .f32) (ix2 r i) = V m c main_arg0 (ix2 R i) := by
    blk_ext [iblk, h t]
  rw [e, V_main_arg0]

/-- Row `r` of the block of the second feature is row `128 t + r` of the array. -/
theorem iblk1 (t : Fin cfg0.N) (r : Fin 128) (i : Fin 2048) (R : Fin 1024) (hR : (R : ℕ) = 128 * t + r) :
    (iblk m c 1 t : FVec Ideal S128x2048 .f32) (ix2 r i) = m ((c : Thread nD τ).loc main_arg1) (ix2 R i) := by
  have h : ∀ t : Fin grid0.N, win0_1.index t = ![(t : ℕ), 0] := by decide +kernel
  have e : (iblk m c 1 t : FVec Ideal S128x2048 .f32) (ix2 r i) = V m c main_arg1 (ix2 R i) := by
    blk_ext [iblk, h t]
  rw [e, V_main_arg1]

/-- The buckets of the first feature, as a column. -/
theorem col2_eq : V m c main_call0_v56
    = (shapeCast S2048x1 (m ((c : Thread nD τ).loc main_arg2) : Vec Ideal S2048 .i32) shapeCasts_S2048_S2048x1 : Vec Ideal S2048x1 .i32) := by
  unfold_abbrev_sides
  after_results
  rfl

/-- The buckets of the first feature, at an index. -/
theorem iblk2 (t : Fin cfg0.N) (i : Fin 2048) :
    (iblk m c 2 t : Vec Ideal S2048x1 .i32) (ix2 i 0) = m ((c : Thread nD τ).loc main_arg2) (ix1 i) := by
  have h : ∀ t : Fin grid0.N, win0_2.index t = ![0, 0] := by decide +kernel
  have e : (iblk m c 2 t : Vec Ideal S2048x1 .i32) (ix2 i 0) = V m c main_call0_v56 (ix2 i 0) := by
    blk_ext [iblk, h t]
  rw [e, col2_eq]
  pointwise

/-- The signs of the first feature, as a column. -/
theorem col3_eq : V m c main_call0_v58
    = (shapeCast S2048x1 (m ((c : Thread nD τ).loc main_arg4) : Vec Ideal S2048 .f32) shapeCasts_S2048_S2048x1 : Vec Ideal S2048x1 .f32) := by
  unfold_abbrev_sides
  after_results
  rfl

/-- The signs of the first feature, at an index. -/
theorem iblk3 (t : Fin cfg0.N) (i : Fin 2048) :
    (iblk m c 3 t : Vec Ideal S2048x1 .f32) (ix2 i 0) = m ((c : Thread nD τ).loc main_arg4) (ix1 i) := by
  have h : ∀ t : Fin grid0.N, win0_3.index t = ![0, 0] := by decide +kernel
  have e : (iblk m c 3 t : Vec Ideal S2048x1 .f32) (ix2 i 0) = V m c main_call0_v58 (ix2 i 0) := by
    blk_ext [iblk, h t]
  rw [e, col3_eq]
  pointwise

/-- The buckets of the second feature, as a column. -/
theorem col4_eq : V m c main_call0_v57
    = (shapeCast S2048x1 (m ((c : Thread nD τ).loc main_arg3) : Vec Ideal S2048 .i32) shapeCasts_S2048_S2048x1 : Vec Ideal S2048x1 .i32) := by
  unfold_abbrev_sides
  after_results
  rfl

/-- The buckets of the second feature, at an index. -/
theorem iblk4 (t : Fin cfg0.N) (i : Fin 2048) :
    (iblk m c 4 t : Vec Ideal S2048x1 .i32) (ix2 i 0) = m ((c : Thread nD τ).loc main_arg3) (ix1 i) := by
  have h : ∀ t : Fin grid0.N, win0_4.index t = ![0, 0] := by decide +kernel
  have e : (iblk m c 4 t : Vec Ideal S2048x1 .i32) (ix2 i 0) = V m c main_call0_v57 (ix2 i 0) := by
    blk_ext [iblk, h t]
  rw [e, col4_eq]
  pointwise

/-- The signs of the second feature, as a column. -/
theorem col5_eq : V m c main_call0_v59
    = (shapeCast S2048x1 (m ((c : Thread nD τ).loc main_arg5) : Vec Ideal S2048 .f32) shapeCasts_S2048_S2048x1 : Vec Ideal S2048x1 .f32) := by
  unfold_abbrev_sides
  after_results
  rfl

/-- The signs of the second feature, at an index. -/
theorem iblk5 (t : Fin cfg0.N) (i : Fin 2048) :
    (iblk m c 5 t : Vec Ideal S2048x1 .f32) (ix2 i 0) = m ((c : Thread nD τ).loc main_arg5) (ix1 i) := by
  have h : ∀ t : Fin grid0.N, win0_5.index t = ![0, 0] := by decide +kernel
  have e : (iblk m c 5 t : Vec Ideal S2048x1 .f32) (ix2 i 0) = V m c main_call0_v59 (ix2 i 0) := by
    blk_ext [iblk, h t]
  rw [e, col5_eq]
  pointwise

/-- The count sketch of one row: the features with their signs, summed into their buckets. -/
def sketch (f : Fin 2048 → ℝ) (h : Fin 2048 → BitVec 32) (s : Fin 2048 → ℝ) (d : ℕ) : ℝ :=
  ∑ i, if h i = BitVec.ofNat 32 d then f i * s i else 0

/-- The arguments are real numbers: the features `f₁`, `f₂`, the signs `s₁`, `s₂`. -/
structure Reals (f₁ f₂ : Fin 1024 → Fin 2048 → ℝ) (s₁ s₂ : Fin 2048 → ℝ) : Prop where
  f₁ : ∀ r i, m ((c : Thread nD τ).loc main_arg0) (ix2 r i) = ((f₁ r i : ℝ) : EReal)
  f₂ : ∀ r i, m ((c : Thread nD τ).loc main_arg1) (ix2 r i) = ((f₂ r i : ℝ) : EReal)
  s₁ : ∀ i, m ((c : Thread nD τ).loc main_arg4) (ix1 i) = ((s₁ i : ℝ) : EReal)
  s₂ : ∀ i, m ((c : Thread nD τ).loc main_arg5) (ix1 i) = ((s₂ i : ℝ) : EReal)

variable {m c} {f₁ f₂ : Fin 1024 → Fin 2048 → ℝ} {s₁ s₂ : Fin 2048 → ℝ} (H : Reals m c f₁ f₂ s₁ s₂)
include H

/-- What grid point `t` leaves in row `r` of its block: the mean of the products of the two sketches' transforms, of row
    `128 t + r` of the arguments. -/
theorem outsAt0_at (t : Fin cfg0.N) (r : Fin 128) (d : Fin 8192) (R : Fin 1024) (hR : (R : ℕ) = 128 * t + r) :
    outsAt0 m c t (ix2 r d)
      = ((Fourier.ref (sketch (f₁ R) (fun i => m ((c : Thread nD τ).loc main_arg2) (ix1 i)) s₁)
          (sketch (f₂ R) (fun i => m ((c : Thread nD τ).loc main_arg3) (ix1 i)) s₂) d : ℝ) : EReal) := by
  have hN : cfg0.N = 8 := N_0
  have ht : (t : ℕ) < 8 := hN ▸ t.isLt
  have row (r : Fin 128) : 128 * (t : ℕ) + r < 1024 := by omega
  rw [outsAt0_eq, body_at (fun r => sketch (f₁ ⟨128 * t + r, row r⟩) (fun i => m ((c : Thread nD τ).loc main_arg2) (ix1 i)) s₁)
    (fun r => sketch (f₂ ⟨128 * t + r, row r⟩) (fun i => m ((c : Thread nD τ).loc main_arg3) (ix1 i)) s₂)
    (fun r d => ?_) (fun r d => ?_) (tables m c t) r d]
  · have hd : (d : ℕ) % 64 < 64 := Nat.mod_lt _ (by norm_num)
    have e := Fourier.kernel_eq_reference (sketch (f₁ ⟨128 * t + r, row r⟩) (fun i => m ((c : Thread nD τ).loc main_arg2) (ix1 i)) s₁)
      (sketch (f₂ ⟨128 * t + r, row r⟩) (fun i => m ((c : Thread nD τ).loc main_arg3) (ix1 i)) s₂) ((d : ℕ) / 64) ⟨(d : ℕ) % 64, hd⟩
    have hR' : R = ⟨128 * t + r, row r⟩ := Fin.ext hR
    rw [show 64 * ((d : ℕ) / 64) + ((⟨(d : ℕ) % 64, hd⟩ : Fin 64) : ℕ) = d from Nat.div_add_mod _ _] at e
    rw [hR']
    exact congrArg _ e
  · refine (sketch1_at (fun r => f₁ ⟨128 * t + r, row r⟩) s₁ (fun r i => ?_) (fun i => ?_) r d).trans ?_
    · exact (iblk0 m c t r i _ rfl).trans (H.f₁ _ _)
    · exact (iblk3 m c t i).trans (H.s₁ _)
    · simp only [iblk2 m c t]
      rfl
  · refine (sketch2_at (fun r => f₂ ⟨128 * t + r, row r⟩) s₂ (fun r i => ?_) (fun i => ?_) r d).trans ?_
    · exact (iblk1 m c t r i _ rfl).trans (H.f₂ _ _)
    · exact (iblk5 m c t i).trans (H.s₂ _)
    · simp only [iblk4 m c t]
      rfl

/-- The result after the run, at every index. -/
theorem arrAt_eq : (dats m 0 c).arrAt 19 cfg0.N = fun y : S1024x8192.Idx =>
    ((Fourier.ref (sketch (f₁ (y 0)) (fun i => m ((c : Thread nD τ).loc main_arg2) (ix1 i)) s₁)
      (sketch (f₂ (y 0)) (fun i => m ((c : Thread nD τ).loc main_arg3) (ix1 i)) s₂) (y 1).val : ℝ) : EReal) := by
  have h : ∀ t : Fin grid0.N, win0_19.index t = ![(t : ℕ), 0] := by decide +kernel
  refine (dats m 0 c).arrAt_eq_of_covers 19 _ (by decide +kernel) fun t hf y => ?_
  blk_simp [h t]
  rw [after0_19]
  have hN : cfg0.N = 8 := N_0
  have ht : (t : ℕ) < 8 := hN ▸ t.isLt
  have hR : ((win0_19.blk t).view.emb y 0 : ℕ) = 128 * t + (y 0 : ℕ) := by
    blk_simp [h t]
    omega
  have hy : (y : S128x8192.Idx) = ix2 (y 0 : Fin 128) (y 1 : Fin 8192) := by
    funext a
    fin_cases a <;> rfl
  exact (congrArg (outsAt0 m c t) hy).trans (outsAt0_at H t (y 0 : Fin 128) (y 1 : Fin 8192) _ hR)

omit H in
/-- The run: the result holds the array of the blocks, the arguments are as they were. -/
theorem run_value : θ_run defs (onTc (τ := τ) (main (F := Ideal))) ⟨m, fun _ => 0, ρ⟩ fun r => ∀ c : Dev nD,
      r.2.mem ((c : Thread nD τ).loc main_v0) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 19,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.KernelIdeal.Body
-- ==== Proof.RefValue.lean ====
/-
  What the reference computes, at an index: the scatters are the count sketches, the tables are the cosines and the sines,
  and the result is the mean of the products of the transforms.
-/
module

public import proofs.«01_k».proof.Proof.KernelValue
public import proofs.«01_k».proof.Proof.Gen.ReferenceIdeal.Read
public import Idealize.ShloMosaic.Lib.Routing.OpsPair
public import Idealize.ShloMosaic.Lib.Routing.Words

@[expose] public section

set_option maxRecDepth 16384

noncomputable section

namespace Cert.ReferenceIdeal.Sums

open Cert.ReferenceIdeal Cert.ReferenceIdeal.Gen Cert.ReferenceIdeal.Read Idealize.ShloMosaic Idealize.ShloMosaic.TcCoe
open Cert.KernelIdeal.Body (coe_sum sketch pi_eq word_4096)

/-- How the scatters place their updates. -/
abbrev dims : ScatterDims S1024x8192 S2048x1 S1024x2048 := scatter_S1024x8192_S2048x1_S1024x2048_0_1_1_1

/-- A small number's word, read as a signed number. -/
theorem toInt_word {a : ℕ} (h : a < 2 ^ 31) : (BitVec.ofNat 32 a).toInt = (a : ℤ) := by
  have e : (BitVec.ofNat 32 a).toNat = a := by rw [BitVec.toNat_ofNat]; omega
  rw [BitVec.toInt_eq_toNat_of_lt (by omega), e]

/-- Where an update lands: in its own row, at the column that its index word names. -/
theorem lands (idx : IVec S2048x1 32) (r' : Fin 1024) (i : Fin 2048) (r : Fin 1024) (d : Fin 8192) :
    dims.resultIdx? (ix2 r' i) idx = some (ix2 r d) ↔ r' = r ∧ idx (ix2 i 0) = BitVec.ofNat 32 d := by
  have h0 : dims.start (ix2 r' i) idx 0 = 0 := dif_neg (by decide)
  have w0 : dims.window (ix2 r' i) 0 = r' := (dif_pos (by decide)).trans rfl
  have w1 : dims.window (ix2 r' i) 1 = 0 := dif_neg (by decide)
  have h1 : dims.start (ix2 r' i) idx 1 = (idx (ix2 i 0)).toInt := by
    refine (dif_pos (by decide)).trans (congrArg (fun k => (idx k).toInt) ?_)
    funext a
    fin_cases a <;> rfl
  refine (Routing.resultIdx?_ix2 dims (ix2 r' i) idx r d).trans ?_
  rw [h0, h1, w0, w1]
  have hd := d.isLt
  constructor
  · rintro ⟨h, h'⟩
    refine ⟨Fin.ext (by omega), ?_⟩
    rw [← BitVec.toInt_inj, toInt_word (by omega)]
    omega
  · rintro ⟨rfl, h'⟩
    rw [h', toInt_word (by omega)]
    omega

/-- A scatter-add of real numbers into zeros, at an index. -/
theorem scatter_add_at (x : FVec Ideal S1024x8192 .f32) (idx : IVec S2048x1 32) (upd : FVec Ideal S1024x2048 .f32)
    (u : Fin 1024 → Fin 2048 → ℝ) (hx : ∀ i, x i = 0) (hu : ∀ r i, upd (ix2 r i) = ((u r i : ℝ) : EReal)) (r : Fin 1024) (d : Fin 8192) :
    Host.scatterAdd dims x idx upd (ix2 r d)
      = ((∑ i, (if idx (ix2 i 0) = BitVec.ofNat 32 d then u r i else 0) : ℝ) : EReal) := by
  show x (ix2 r d) + ∑ j ∈ Finset.univ.filter (fun j => dims.resultIdx? j idx = some (ix2 r d)), upd j = _
  rw [hx, zero_add, Finset.sum_filter, ValueIdx.sum_idx2, Finset.sum_eq_single r]
  · rw [← coe_sum]
    refine Finset.sum_congr rfl fun i _ => ?_
    show (if dims.resultIdx? (ix2 r i) idx = some (ix2 r d) then upd (ix2 r i) else 0) = _
    by_cases h : idx (ix2 i 0) = BitVec.ofNat 32 d
    · rw [if_pos ((lands idx r i r d).2 ⟨rfl, h⟩), if_pos h, hu]
    · rw [if_neg fun q => h ((lands idx r i r d).1 q).2, if_neg h, EReal.coe_zero]
  · intro r' _ hr
    exact Finset.sum_eq_zero fun i _ => if_neg fun q => hr ((lands idx r' i r d).1 q).1
  · intro h
    exact (h (Finset.mem_univ _)).elim

section Value

variable {x0 x1 : FVec Ideal S1024x2048 .f32} {x2 x3 : IVec S2048 32} {x4 x5 : FVec Ideal S2048 .f32}
  {f₁ f₂ : Fin 1024 → Fin 2048 → ℝ} {s₁ s₂ : Fin 2048 → ℝ}

/-- The first sketch. -/
theorem sketch1_at (h0 : ∀ r i, x0 (ix2 r i) = ((f₁ r i : ℝ) : EReal)) (h4 : ∀ i, x4 (ix1 i) = ((s₁ i : ℝ) : EReal))
    (h2 : ∀ i, (x2 (ix1 i)).toNat < 2 ^ 31) (r : Fin 1024) (d : Fin 8192) :
    val_main_v10 (F := Ideal) x0 x2 x4 (ix2 r d) = ((sketch (f₁ r) (fun i => x2 (ix1 i)) s₁ d : ℝ) : EReal) := by
  unfold val_main_v10
  rw [scatter_add_at _ _ _ (fun r i => f₁ r i * s₁ i) (fun i => ?_) (fun r i => ?_)]
  · have e : ∀ i, val_main_v9 (F := Ideal) x2 (ix2 i 0) = x2 (ix1 i) := fun i => by
      pointwise [val_main_v9, val_main_v8, val_main_v7, val_main_v6, val_main_v5, val_main_v4, val_main_c, val_main_c_0]
      exact Routing.wrap_of_lt _ _ (h2 i)
    simp only [e]
    rfl
  · exact Ideal.ofBits_zero_f32
  · pointwise [val_main_v3, val_main_v2, val_main_v1]
    rw [h0, h4, ← EReal.coe_mul]

/-- The second sketch. -/
theorem sketch2_at (h1 : ∀ r i, x1 (ix2 r i) = ((f₂ r i : ℝ) : EReal)) (h5 : ∀ i, x5 (ix1 i) = ((s₂ i : ℝ) : EReal))
    (h3 : ∀ i, (x3 (ix1 i)).toNat < 2 ^ 31) (r : Fin 1024) (d : Fin 8192) :
    val_main_v21 (F := Ideal) x1 x3 x5 (ix2 r d) = ((sketch (f₂ r) (fun i => x3 (ix1 i)) s₂ d : ℝ) : EReal) :=
  sketch1_at h1 h5 h3 r d

/-- The angle of the transform at an index. -/
theorem angle_at (n k : Fin 8192) : val_main_v31 (F := Ideal) (ix2 n k)
    = ((((n * k % 8192 : ℕ) : ℝ) * (1 / 4096 * Real.pi) : ℝ) : EReal) := by
  pointwise [val_main_v31, val_main_v30, val_main_v29, val_main_v28, val_main_v27, val_main_v26, val_main_v25, val_main_v24,
    val_main_v23, val_main_v22, val_main_cst_4, val_main_cst_5, val_main_cst_7, val_main_c_6]
  have hn := n.isLt
  have hk := k.isLt
  have hnk : (n : ℕ) * k < 8192 * 8192 := Nat.mul_lt_mul'' hn hk
  have hm : (n : ℕ) * k % 8192 < 8192 := Nat.mod_lt _ (by norm_num)
  have h : FloatOps.sitofp (F := Ideal) FTy.f32 (IntOp.remsi ArithUnit.host (IntOp.muli (BitVec.ofNat 32 ↑n) (BitVec.ofNat 32 ↑k)) 8192#32)
      = (((n * k % 8192 : ℕ) : ℝ) : EReal) := by
    show (((IntOp.remsi ArithUnit.host (IntOp.muli (BitVec.ofNat 32 ↑n) (BitVec.ofNat 32 ↑k)) 8192#32).toInt : ℝ) : EReal) = _
    rw [show IntOp.muli (BitVec.ofNat 32 ↑n) (BitVec.ofNat 32 ↑k) = BitVec.ofNat 32 (n * k) from (BitVec.ofNat_mul _ _).symm,
      Routing.remsi_word _ (by omega) (by norm_num) (by norm_num), toInt_word (by omega),
      Int.cast_natCast]
  rw [h, pi_eq, word_4096, ← EReal.coe_mul, ← EReal.coe_mul]
  congr 1
  ring

/-- The cosine table. -/
theorem cos_at (n k : Fin 8192) : val_main_v32 (F := Ideal) (ix2 n k) = ((Fourier.C (n * k) : ℝ) : EReal) := by
  show Ideal.cos (val_main_v31 (F := Ideal) (ix2 n k)) = _
  rw [angle_at, Ideal.cos_coe]
  exact congrArg _ (Fourier.C_mod (Nat.mod_mod _ _))

/-- The sine table. -/
theorem sin_at (n k : Fin 8192) : val_main_v33 (F := Ideal) (ix2 n k) = ((Fourier.S (n * k) : ℝ) : EReal) := by
  show Ideal.sin (val_main_v31 (F := Ideal) (ix2 n k)) = _
  rw [angle_at, Ideal.sin_coe]
  exact congrArg _ (Fourier.S_mod (Nat.mod_mod _ _))

/-- A real part of a spectrum. -/
theorem specR_at {x : FVec Ideal S1024x2048 .f32} {h : IVec S2048 32} {s : FVec Ideal S2048 .f32} {a : Fin 1024 → ℕ → ℝ}
    (ha : ∀ (r : Fin 1024) (d : Fin 8192), val_main_v10 (F := Ideal) x h s (ix2 r d) = ((a r d : ℝ) : EReal)) (r : Fin 1024) (k : Fin 8192) :
    val_main_v34 (F := Ideal) x h s (ix2 r k) = ((Fourier.specR (a r) k : ℝ) : EReal) := by
  rw [val_main_v34_apply, Fourier.specR, ← coe_sum]
  refine Finset.sum_congr rfl fun n _ => ?_
  rw [show lidx_main_v34 (ix2 r k) n = ix2 r n from funext fun a => by fin_cases a <;> rfl,
    show ridx_main_v34 (ix2 r k) n = ix2 n k from funext fun a => by fin_cases a <;> rfl, ha, cos_at, ← EReal.coe_mul]

/-- An imaginary part of a spectrum. -/
theorem specI_at {x : FVec Ideal S1024x2048 .f32} {h : IVec S2048 32} {s : FVec Ideal S2048 .f32} {a : Fin 1024 → ℕ → ℝ}
    (ha : ∀ (r : Fin 1024) (d : Fin 8192), val_main_v10 (F := Ideal) x h s (ix2 r d) = ((a r d : ℝ) : EReal)) (r : Fin 1024) (k : Fin 8192) :
    val_main_v36 (F := Ideal) x h s (ix2 r k) = ((Fourier.specI (a r) k : ℝ) : EReal) := by
  show -(val_main_v35 (F := Ideal) x h s (ix2 r k) : EReal) = _
  rw [val_main_v35_apply, Fourier.specI, EReal.coe_neg, ← coe_sum]
  refine congrArg _ (Finset.sum_congr rfl fun n _ => ?_)
  rw [show lidx_main_v35 (ix2 r k) n = ix2 r n from funext fun a => by fin_cases a <;> rfl,
    show ridx_main_v35 (ix2 r k) n = ix2 n k from funext fun a => by fin_cases a <;> rfl, ha, sin_at, ← EReal.coe_mul]

/-- The word 8192. -/
theorem word_8192 : Ideal.ofBits FTy.f32 0x46000000#32 = ((8192 : ℝ) : EReal) := by
  simp [Ideal.ofBits, Ideal.ieee, -EReal.coe_mul]; norm_num

/-- The result of the reference at an index. -/
theorem result_at (h0 : ∀ r i, x0 (ix2 r i) = ((f₁ r i : ℝ) : EReal)) (h1 : ∀ r i, x1 (ix2 r i) = ((f₂ r i : ℝ) : EReal))
    (h4 : ∀ i, x4 (ix1 i) = ((s₁ i : ℝ) : EReal)) (h5 : ∀ i, x5 (ix1 i) = ((s₂ i : ℝ) : EReal))
    (h2 : ∀ i, (x2 (ix1 i)).toNat < 2 ^ 31) (h3 : ∀ i, (x3 (ix1 i)).toNat < 2 ^ 31) (r : Fin 1024) (d : Fin 8192) :
    val_main_v50 (F := Ideal) x0 x1 x2 x3 x4 x5 (ix2 r d)
      = ((Fourier.ref (sketch (f₁ r) (fun i => x2 (ix1 i)) s₁) (sketch (f₂ r) (fun i => x3 (ix1 i)) s₂) d : ℝ) : EReal) := by
  have a := sketch1_at h0 h4 h2
  have b := sketch1_at h1 h5 h3
  have pR : ∀ (r : Fin 1024) (k : Fin 8192), val_main_v42 (F := Ideal) x0 x1 x2 x3 x4 x5 (ix2 r k)
      = ((Fourier.prodR (sketch (f₁ r) (fun i => x2 (ix1 i)) s₁) (sketch (f₂ r) (fun i => x3 (ix1 i)) s₂) k : ℝ) : EReal) := fun r k => by
    show (val_main_v34 (F := Ideal) x0 x2 x4 (ix2 r k) * val_main_v34 (F := Ideal) x1 x3 x5 (ix2 r k)
      - val_main_v36 (F := Ideal) x0 x2 x4 (ix2 r k) * val_main_v36 (F := Ideal) x1 x3 x5 (ix2 r k) : EReal) = _
    rw [specR_at a, specR_at b, specI_at a, specI_at b, ← EReal.coe_mul, ← EReal.coe_mul, ← EReal.coe_sub]
    rfl
  have pI : ∀ (r : Fin 1024) (k : Fin 8192), val_main_v45 (F := Ideal) x0 x1 x2 x3 x4 x5 (ix2 r k)
      = ((Fourier.prodI (sketch (f₁ r) (fun i => x2 (ix1 i)) s₁) (sketch (f₂ r) (fun i => x3 (ix1 i)) s₂) k : ℝ) : EReal) := fun r k => by
    show (val_main_v34 (F := Ideal) x0 x2 x4 (ix2 r k) * val_main_v36 (F := Ideal) x1 x3 x5 (ix2 r k)
      + val_main_v36 (F := Ideal) x0 x2 x4 (ix2 r k) * val_main_v34 (F := Ideal) x1 x3 x5 (ix2 r k) : EReal) = _
    rw [specR_at a, specR_at b, specI_at a, specI_at b, ← EReal.coe_mul, ← EReal.coe_mul, ← EReal.coe_add]
    rfl
  have e : val_main_v49 (F := Ideal) (ix2 r d) = ((8192 : ℝ) : EReal) := by
    rw [val_main_v49_apply]
    exact word_8192
  show Ideal.div (val_main_v46 (F := Ideal) x0 x1 x2 x3 x4 x5 (ix2 r d) - val_main_v47 (F := Ideal) x0 x1 x2 x3 x4 x5 (ix2 r d) : EReal)
    (val_main_v49 (F := Ideal) (ix2 r d)) = _
  have eR : val_main_v46 (F := Ideal) x0 x1 x2 x3 x4 x5 (ix2 r d) = ((∑ k : Fin 8192,
      Fourier.prodR (sketch (f₁ r) (fun i => x2 (ix1 i)) s₁) (sketch (f₂ r) (fun i => x3 (ix1 i)) s₂) k * Fourier.C (k * d) : ℝ) : EReal) := by
    rw [val_main_v46_apply, ← coe_sum]
    refine Finset.sum_congr rfl fun n _ => ?_
    rw [show lidx_main_v46 (ix2 r d) n = ix2 r n from funext fun a => by fin_cases a <;> rfl,
      show ridx_main_v46 (ix2 r d) n = ix2 n d from funext fun a => by fin_cases a <;> rfl, pR, cos_at, ← EReal.coe_mul]
  have eI : val_main_v47 (F := Ideal) x0 x1 x2 x3 x4 x5 (ix2 r d) = ((∑ k : Fin 8192,
      Fourier.prodI (sketch (f₁ r) (fun i => x2 (ix1 i)) s₁) (sketch (f₂ r) (fun i => x3 (ix1 i)) s₂) k * Fourier.S (k * d) : ℝ) : EReal) := by
    rw [val_main_v47_apply, ← coe_sum]
    refine Finset.sum_congr rfl fun n _ => ?_
    rw [show lidx_main_v47 (ix2 r d) n = ix2 r n from funext fun a => by fin_cases a <;> rfl,
      show ridx_main_v47 (ix2 r d) n = ix2 n d from funext fun a => by fin_cases a <;> rfl, pI, sin_at, ← EReal.coe_mul]
  rw [e, eR, eI, Ideal.div_coe (by norm_num), ← EReal.coe_sub, ← EReal.coe_mul]
  rfl

end Value

end Cert.ReferenceIdeal.Sums
-- ==== Proof.Pre.lean ====
/-
  What the precondition says: the features and the signs are real numbers, the bucket numbers are not negative.
-/
module

public import proofs.«01_k».proof.Pre_finite
public import proofs.«01_k».proof.Proof.KernelValue
public import Idealize.ShloMosaic.Lib.ReduceAll

@[expose] public section

noncomputable section

namespace Cert.Pre_finite.Read

open Cert.Pre_finite Idealize.ShloMosaic

/-- The side conditions of the precondition. -/
theorem facts : Cert.Pre_finite.Facts where
  bcast_S_S1024x2048 := by decide
  reducesTo_S1024x2048_S_d0_1 := by decide
  h_S_ := by decide
  bcast_S_S2048 := by decide
  reducesTo_S2048_S_d0 := by decide

/-- A value whose size is below the infinite word is a real number. -/
theorem real_of {x : EReal} (h : Ideal.cmp .olt (max x (-x) : EReal) (Ideal.ofBits .f32 0x7F800000#32) = 1#1) : x = ((x.toReal : ℝ) : EReal) := by
  have htop : Ideal.ofBits .f32 0x7F800000#32 = ⊤ := by simp [Ideal.ofBits, Ideal.ieee]
  have h2 : max x (-x) < ⊤ := by
    rw [htop] at h
    exact (Ideal.cmp_olt_eq_one _ _).1 h
  have h3 := max_lt_iff.1 h2
  refine (EReal.coe_toReal h3.1.ne fun e => ?_).symm
  rw [e] at h3
  exact h3.2.ne rfl

/-- A word that is at least zero as a signed number is below half the range. -/
theorem nonneg_of {x : BitVec 32} (h : IntOp.cmpi .sge x 0#32 = 1#1) : x.toNat < 2 ^ 31 := by
  have e : ∀ p : Bool, BitVec.ofBool p = 1#1 → p = true := by decide
  have h1 := e _ h
  simp only [BitVec.sle_eq_decide, decide_eq_true_eq, BitVec.toInt_eq_toNat_cond, BitVec.toNat_ofNat] at h1
  omega

variable {x0 x1 : FVec Ideal S1024x2048 .f32} {x2 x3 : IVec S2048 32} {x4 x5 : FVec Ideal S2048 .f32}

/-- The precondition, read at every index. -/
theorem read [Cert.Pre_finite.Facts] (h : fn (F := Ideal) x0 x1 x2 x3 x4 x5 = fun _ => 1#1) :
    (∀ i, x0 i = (((x0 i : EReal).toReal : ℝ) : EReal)) ∧ (∀ i, x1 i = (((x1 i : EReal).toReal : ℝ) : EReal))
      ∧ (∀ i, x4 i = (((x4 i : EReal).toReal : ℝ) : EReal)) ∧ (∀ i, x5 i = (((x5 i : EReal).toReal : ℝ) : EReal))
      ∧ (∀ i, (x2 i).toNat < 2 ^ 31) ∧ (∀ i, (x3 i).toNat < 2 ^ 31) := by
  haveI : Subsingleton S_.Idx := ⟨fun a b => funext fun k => k.elim0⟩
  have e := congrFun h (fun k => k.elim0)
  unfold fn fn_part1 at e
  dsimp only at e
  obtain ⟨e, h3⟩ := IntOp.andi_eq_one.1 e
  obtain ⟨e, h2⟩ := IntOp.andi_eq_one.1 e
  obtain ⟨e, h5⟩ := IntOp.andi_eq_one.1 e
  obtain ⟨e, h4⟩ := IntOp.andi_eq_one.1 e
  obtain ⟨h0, h1⟩ := IntOp.andi_eq_one.1 e
  exact ⟨fun i => real_of (Host.reduce_andi_all _ _ _ _ _ h0 i), fun i => real_of (Host.reduce_andi_all _ _ _ _ _ h1 i),
    fun i => real_of (Host.reduce_andi_all _ _ _ _ _ h4 i), fun i => real_of (Host.reduce_andi_all _ _ _ _ _ h5 i),
    fun i => nonneg_of (Host.reduce_andi_all _ _ _ _ _ h2 i), fun i => nonneg_of (Host.reduce_andi_all _ _ _ _ _ h3 i)⟩

end Cert.Pre_finite.Read

end
-- ==== Proof.lean ====
/-
  The claims: the frames of the kernel, of its reading over the extended reals and of the reference; and that kernel and
  reference compute the same function there, where the features and the signs are real numbers and no bucket number is
  negative.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.KernelLaunch
public import proofs.«01_k».proof.Proof.KernelValue
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference returns, leaves its arguments as they were, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function. -/
theorem same : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hp ha
  haveI := Cert.Pre_finite.Read.facts
  refine ⟨fun c => (Cert.KernelIdeal.Body.dats m 0 c).arrAt 19 Cert.KernelIdeal.cfg0.N, Cert.KernelIdeal.Body.run_value g,
    (θ_run Cert.ReferenceIdeal.defs _ _).mono (fun r h c => ⟨(h c).1.trans ?_, (h c).2⟩)
      (Cert.ReferenceIdeal.Value.run (F := Ideal) m' g')⟩
  obtain ⟨q0, q1, q4, q5, q2, q3⟩ := Cert.Pre_finite.Read.read (hp c)
  obtain ⟨a0, a1, a2, a3, a4, a5⟩ := ha c
  rw [Cert.ReferenceIdeal.Read.val_main_v50_eq]
  refine Eq.trans ?_ (Cert.KernelIdeal.Body.arrAt_eq
    (⟨fun r i => q0 (ix2 r i), fun r i => q1 (ix2 r i), fun i => q4 (ix1 i), fun i => q5 (ix1 i)⟩ : Cert.KernelIdeal.Body.Reals m c _ _ _ _)).symm
  rw [a0, a1, a2, a3, a4, a5]
  funext y
  have hy : y = ix2 (y 0 : Fin 1024) (y 1 : Fin 8192) := by
    funext a
    fin_cases a <;> rfl
  refine (congrArg _ hy).trans ?_
  exact Cert.ReferenceIdeal.Sums.result_at (fun r i => q0 (ix2 r i)) (fun r i => q1 (ix2 r i)) (fun i => q4 (ix1 i))
    (fun i => q5 (ix1 i)) (fun i => q2 (ix1 i)) (fun i => q3 (ix1 i)) (y 0) (y 1)

theorem claim : Cert.Claim := ⟨Cert.Kernel.Gen.facts, Cert.KernelIdeal.Gen.facts, Cert.ReferenceIdeal.Gen.facts,
  Cert.Pre_finite.Read.facts,
  fun m ρ _ => Cert.Kernel.Body.frame m ρ, fun m ρ _ => Cert.KernelIdeal.Body.frame m ρ,
  fun m ρ _ => Cert.KernelIdeal.Body.frame m ρ, frame_reference, fun m ρ _ => frame_reference m ρ trivial, trivial, same⟩

end Cert.Proof

end
